-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_symmetric_KernelIdeal [hPre_symmetric_KernelIdeal : Cert.Pre_symmetric_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_symmetric_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_symmetric_ReferenceIdeal [hPre_symmetric_ReferenceIdeal : Cert.Pre_symmetric_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_symmetric_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_symmetric_KernelIdeal [hKernelIdeal : Cert.KernelIdeal.Facts] [hPre_symmetric_KernelIdeal : Cert.Pre_symmetric_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_symmetric_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_symmetric_ReferenceIdeal [hReferenceIdeal : Cert.ReferenceIdeal.Facts] [hPre_symmetric_ReferenceIdeal : Cert.Pre_symmetric_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_symmetric_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_symmetric_KernelIdeal [hKernelIdeal : Cert.KernelIdeal.Facts] [hReferenceIdeal : Cert.ReferenceIdeal.Facts] [hPre_symmetric_KernelIdeal : Cert.Pre_symmetric_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_symmetric_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_symmetric_KernelIdeal : Cert.Pre_symmetric_KernelIdeal.Facts) (hPre_symmetric_ReferenceIdeal : Cert.Pre_symmetric_ReferenceIdeal.Facts),
    quiescent_Kernel (hKernel := hKernel)
    ∧ quiescent_KernelIdeal (hKernelIdeal := hKernelIdeal)
    ∧ quiescent_KernelIdeal_pre_symmetric_KernelIdeal (hKernelIdeal := hKernelIdeal) (hPre_symmetric_KernelIdeal := hPre_symmetric_KernelIdeal)
    ∧ quiescent_ReferenceIdeal (hReferenceIdeal := hReferenceIdeal)
    ∧ quiescent_ReferenceIdeal_pre_symmetric_ReferenceIdeal (hReferenceIdeal := hReferenceIdeal) (hPre_symmetric_ReferenceIdeal := hPre_symmetric_ReferenceIdeal)
    ∧ preserves_Kernel_KernelIdeal
    ∧ algebraic_KernelIdeal_ReferenceIdeal_pre_symmetric_KernelIdeal (hKernelIdeal := hKernelIdeal) (hReferenceIdeal := hReferenceIdeal) (hPre_symmetric_KernelIdeal := hPre_symmetric_KernelIdeal)
-- ==== Pre_symmetric_KernelIdeal.lean ====
abbrev S4096x1024 : Shape := ⟨2, ![4096, 1024]⟩
abbrev S1024x2048 : Shape := ⟨2, ![1024, 2048]⟩
abbrev S1 : Shape := ⟨1, ![1]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : IVec S4096x1024 8) (main_arg1 : IVec S1024x2048 8) (main_arg2 : FVec F S1 .f32) (main_arg3 : FVec F S1 .f32) : IVec S4096x1024 1 :=
  let main_c : IVec S_ 8 := constantI S_ 8 128#8
  let main_v0 : IVec S4096x1024 8 := broadcastInDim S4096x1024 ![] bcast_S_S4096x1024 main_c
  let main_v1 : IVec S4096x1024 1 := cmpi .ne main_arg0 main_v0
  main_v1
-- ==== Pre_symmetric_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : IVec S4096x4096 8) (main_arg1 : IVec S4096x2048 8) (main_arg2 : FVec F S1 .f32) (main_arg3 : FVec F S1 .f32) : IVec S4096x4096 1 :=
  let main_c : IVec S_ 8 := constantI S_ 8 128#8
  let main_v0 : IVec S4096x4096 8 := broadcastInDim S4096x4096 ![] bcast_S_S4096x4096 main_c
  let main_v1 : IVec S4096x4096 1 := cmpi .ne main_arg0 main_v0
  main_v1
-- ==== Kernel.lean ====
abbrev S4096x1024 : Shape := ⟨2, ![4096, 1024]⟩
abbrev S1024x2048 : Shape := ⟨2, ![1024, 2048]⟩
abbrev S1 : Shape := ⟨1, ![1]⟩
abbrev S4096x2048 : Shape := ⟨2, ![4096, 2048]⟩
abbrev S3x512x2048 : Shape := ⟨3, ![3, 512, 2048]⟩
abbrev S2x512x2048 : Shape := ⟨3, ![2, 512, 2048]⟩
abbrev S12 : Shape := ⟨1, ![12]⟩
abbrev S_ : Shape := ⟨0, ![]⟩
abbrev S128x1024 : Shape := ⟨2, ![128, 1024]⟩
abbrev S128x2048 : Shape := ⟨2, ![128, 2048]⟩
abbrev S1x128x2048 : Shape := ⟨3, ![1, 128, 2048]⟩
abbrev S1024x1024 : Shape := ⟨2, ![1024, 1024]⟩

abbrev nBuf : Space → Nat
  | .hbm => 5
  | .vmem => 7
  | .smem => 2
  | _ => 0

abbrev bufTy : (tb : Table) → Fin (tcTables nBuf tb) → BufTy
  | .hbm, ⟨0, _⟩ => ⟨S4096x1024, .i8⟩
  | .hbm, ⟨1, _⟩ => ⟨S1024x2048, .i8⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x1024, .i8⟩
  | .local _ .vmem, ⟨1, _⟩ => ⟨S1024x2048, .i8⟩
  | .local _ .vmem, ⟨2, _⟩ => ⟨S4096x2048, .f32⟩
  | .local _ .vmem, ⟨3, _⟩ => ⟨S3x512x2048, .bf16⟩
  | .local _ .vmem, ⟨4, _⟩ => ⟨S3x512x2048, .bf16⟩
  | .local _ .vmem, ⟨5, _⟩ => ⟨S2x512x2048, .bf16⟩
  | .local _ .vmem, ⟨6, _⟩ => ⟨S2x512x2048, .bf16⟩
  | .local _ .smem, ⟨0, _⟩ => ⟨S1, .f32⟩
  | .local _ .smem, ⟨1, _⟩ => ⟨S1, .f32⟩
  | _, _ => ⟨S4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  (ofTc nBuf bufTy 1 101 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) (c0_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v16 : BitVec 32 := Scalar.muli v2 c1024_i32
  let v17 : BitVec 32 := Scalar.addi v16 c0_i32_11
  let v18 : BitVec 32 := Scalar.addi v17 c0_i32_12
  let v19 : Index := Scalar.indexCast v18
  let c0_13 : Index := 0#32
  ![v19.toNat, 0]
def k0_off2 (d0 : Dev nD) (c0_i32_11 : BitVec 32) (c0_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v16 : BitVec 32 := Scalar.muli v2 c1024_i32
  let v17 : BitVec 32 := Scalar.addi v16 c0_i32_11
  let v18 : BitVec 32 := Scalar.addi v17 c0_i32_12
  let v26 : Index := Scalar.indexCast v18
  let c0_16 : Index := 0#32
  ![v26.toNat, 0]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_24 : BitVec 32 := 1#32
  let v32 : BitVec 32 := Scalar.muli v7 c1_i32_24
  let v33 : BitVec 32 := Scalar.addi c0_i32_25 v32
  v33.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_44 : BitVec 32 := 1#32
  let v58 : BitVec 32 := Scalar.muli v5 c1_i32_44
  let v59 : BitVec 32 := Scalar.addi c0_i32_45 v58
  v59.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_63 : BitVec 32 := 1#32
  let v84 : BitVec 32 := Scalar.muli v7 c1_i32_63
  let v85 : BitVec 32 := Scalar.addi c0_i32_64 v84
  v85.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_84 : BitVec 32 := 1#32
  let v110 : BitVec 32 := Scalar.muli v5 c1_i32_84
  let v111 : BitVec 32 := Scalar.addi c0_i32_85 v110
  v111.toNat
def k0_dev7 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_103 : BitVec 32 := 1#32
  let v136 : BitVec 32 := Scalar.muli v7 c1_i32_103
  let v137 : BitVec 32 := Scalar.addi c0_i32_104 v136
  v137.toNat
def k0_dev8 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_124 : BitVec 32 := 1#32
  let v162 : BitVec 32 := Scalar.muli v5 c1_i32_124
  let v163 : BitVec 32 := Scalar.addi c0_i32_125 v162
  v163.toNat
def k0_dev9 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_142 : BitVec 32 := 1#32
  let v188 : BitVec 32 := Scalar.muli v7 c1_i32_142
  let v189 : BitVec 32 := Scalar.addi c0_i32_143 v188
  v189.toNat
def k0_dev10 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_163 : BitVec 32 := 1#32
  let v214 : BitVec 32 := Scalar.muli v5 c1_i32_163
  let v215 : BitVec 32 := Scalar.addi c0_i32_164 v214
  v215.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_169 : BitVec 32 := 4#32
  let v224 : BitVec 32 := Scalar.addi v2 c4_i32_169
  let c1_i32_170 : BitVec 32 := 1#32
  let v225 : BitVec 32 := Scalar.subi v224 c1_i32_170
  let c4_i32_171 : BitVec 32 := 4#32
  let v226 : BitVec 32 := Scalar.remsi v225 c4_i32_171
  let c1024_i32_172 : BitVec 32 := 1024#32
  let v227 : BitVec 32 := Scalar.muli v226 c1024_i32_172
  let v228 : Index := Scalar.indexCast v227
  let c0_173 : Index := 0#32
  ![v228.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_169 : BitVec 32 := 4#32
  let v224 : BitVec 32 := Scalar.addi v2 c4_i32_169
  let c1_i32_170 : BitVec 32 := 1#32
  let v225 : BitVec 32 := Scalar.subi v224 c1_i32_170
  let c4_i32_171 : BitVec 32 := 4#32
  let v226 : BitVec 32 := Scalar.remsi v225 c4_i32_171
  let c1024_i32_172 : BitVec 32 := 1024#32
  let v227 : BitVec 32 := Scalar.muli v226 c1024_i32_172
  let v235 : Index := Scalar.indexCast v227
  let c0_177 : Index := 0#32
  ![v235.toNat, 0]
def k0_off5 (d0 : Dev nD) (c1_i32_178 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v237 : BitVec 32 := Scalar.addi v2 c1_i32_178
  let c4_i32_179 : BitVec 32 := 4#32
  let v238 : BitVec 32 := Scalar.remsi v237 c4_i32_179
  let c1024_i32_180 : BitVec 32 := 1024#32
  let v239 : BitVec 32 := Scalar.muli v238 c1024_i32_180
  let v240 : Index := Scalar.indexCast v239
  let c0_181 : Index := 0#32
  ![v240.toNat, 0]
def k0_off6 (d0 : Dev nD) (c1_i32_178 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v237 : BitVec 32 := Scalar.addi v2 c1_i32_178
  let c4_i32_179 : BitVec 32 := 4#32
  let v238 : BitVec 32 := Scalar.remsi v237 c4_i32_179
  let c1024_i32_180 : BitVec 32 := 1024#32
  let v239 : BitVec 32 := Scalar.muli v238 c1024_i32_180
  let v247 : Index := Scalar.indexCast v239
  let c0_185 : Index := 0#32
  ![v247.toNat, 0]
def k0_off7 (d0 : Dev nD) (c0_i32_213 : BitVec 32) (c0_i32_219 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v275 : BitVec 32 := Scalar.subi v2 c0_i32_213
  let c1_i32_214 : BitVec 32 := 1#32
  let v276 : BitVec 32 := Scalar.subi v275 c1_i32_214
  let c4_i32_215 : BitVec 32 := 4#32
  let v277 : BitVec 32 := Scalar.addi v276 c4_i32_215
  let c4_i32_216 : BitVec 32 := 4#32
  let v278 : BitVec 32 := Scalar.remsi v277 c4_i32_216
  let c1024_i32_217 : BitVec 32 := 1024#32
  let v279 : BitVec 32 := Scalar.muli v278 c1024_i32_217
  let c0_i32_218 : BitVec 32 := 0#32
  let v280 : BitVec 32 := Scalar.addi v279 c0_i32_218
  let v281 : BitVec 32 := Scalar.addi v280 c0_i32_219
  let v282 : Index := Scalar.indexCast v281
  let c0_220 : Index := 0#32
  ![v282.toNat, 0]
def k0_dev11 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_231 : BitVec 32 := 1#32
  let v295 : BitVec 32 := Scalar.muli v7 c1_i32_231
  let v296 : BitVec 32 := Scalar.addi c0_i32_232 v295
  v296.toNat
def k0_off8 (d0 : Dev nD) (c0_i32_256 : BitVec 32) (c0_i32_261 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v319 : BitVec 32 := Scalar.addi v2 c0_i32_256
  let c1_i32_257 : BitVec 32 := 1#32
  let v320 : BitVec 32 := Scalar.addi v319 c1_i32_257
  let c4_i32_258 : BitVec 32 := 4#32
  let v321 : BitVec 32 := Scalar.remsi v320 c4_i32_258
  let c1024_i32_259 : BitVec 32 := 1024#32
  let v322 : BitVec 32 := Scalar.muli v321 c1024_i32_259
  let c512_i32_260 : BitVec 32 := 512#32
  let v323 : BitVec 32 := Scalar.addi v322 c512_i32_260
  let v324 : BitVec 32 := Scalar.addi v323 c0_i32_261
  let v325 : Index := Scalar.indexCast v324
  let c0_262 : Index := 0#32
  ![v325.toNat, 0]
def k0_dev12 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_274 : BitVec 32 := 1#32
  let v338 : BitVec 32 := Scalar.muli v5 c1_i32_274
  let v339 : BitVec 32 := Scalar.addi c0_i32_275 v338
  v339.toNat
def k0_dev13 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_317 : BitVec 32 := 1#32
  let v382 : BitVec 32 := Scalar.muli v7 c1_i32_317
  let v383 : BitVec 32 := Scalar.addi c0_i32_318 v382
  v383.toNat
def k0_dev14 (d0 : Dev nD) : Nat :=
  let c0_i32_361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_360 : BitVec 32 := 1#32
  let v425 : BitVec 32 := Scalar.muli v5 c1_i32_360
  let v426 : BitVec 32 := Scalar.addi c0_i32_361 v425
  v426.toNat
def k0_dev15 (d0 : Dev nD) : Nat :=
  let c0_i32_404 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_403 : BitVec 32 := 1#32
  let v469 : BitVec 32 := Scalar.muli v7 c1_i32_403
  let v470 : BitVec 32 := Scalar.addi c0_i32_404 v469
  v470.toNat
def k0_dev16 (d0 : Dev nD) : Nat :=
  let c0_i32_447 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_446 : BitVec 32 := 1#32
  let v512 : BitVec 32 := Scalar.muli v5 c1_i32_446
  let v513 : BitVec 32 := Scalar.addi c0_i32_447 v512
  v513.toNat
def k0_dev17 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_489 : BitVec 32 := 1#32
  let v556 : BitVec 32 := Scalar.muli v7 c1_i32_489
  let v557 : BitVec 32 := Scalar.addi c0_i32_490 v556
  v557.toNat
def k0_dev18 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_532 : BitVec 32 := 1#32
  let v599 : BitVec 32 := Scalar.muli v5 c1_i32_532
  let v600 : BitVec 32 := Scalar.addi c0_i32_533 v599
  v600.toNat
def k0_dev19 (d0 : Dev nD) : Nat :=
  let c0_i32_576 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_575 : BitVec 32 := 1#32
  let v643 : BitVec 32 := Scalar.muli v7 c1_i32_575
  let v644 : BitVec 32 := Scalar.addi c0_i32_576 v643
  v644.toNat
def k0_dev20 (d0 : Dev nD) : Nat :=
  let c0_i32_619 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_618 : BitVec 32 := 1#32
  let v686 : BitVec 32 := Scalar.muli v5 c1_i32_618
  let v687 : BitVec 32 := Scalar.addi c0_i32_619 v686
  v687.toNat
def k0_dev21 (d0 : Dev nD) : Nat :=
  let c0_i32_662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_661 : BitVec 32 := 1#32
  let v730 : BitVec 32 := Scalar.muli v7 c1_i32_661
  let v731 : BitVec 32 := Scalar.addi c0_i32_662 v730
  v731.toNat
def k0_dev22 (d0 : Dev nD) : Nat :=
  let c0_i32_705 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_704 : BitVec 32 := 1#32
  let v773 : BitVec 32 := Scalar.muli v5 c1_i32_704
  let v774 : BitVec 32 := Scalar.addi c0_i32_705 v773
  v774.toNat
def k0_dev23 (d0 : Dev nD) : Nat :=
  let c0_i32_748 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_747 : BitVec 32 := 1#32
  let v817 : BitVec 32 := Scalar.muli v7 c1_i32_747
  let v818 : BitVec 32 := Scalar.addi c0_i32_748 v817
  v818.toNat
def k0_dev24 (d0 : Dev nD) : Nat :=
  let c0_i32_791 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_790 : BitVec 32 := 1#32
  let v860 : BitVec 32 := Scalar.muli v5 c1_i32_790
  let v861 : BitVec 32 := Scalar.addi c0_i32_791 v860
  v861.toNat
def k0_dev25 (d0 : Dev nD) : Nat :=
  let c0_i32_834 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_833 : BitVec 32 := 1#32
  let v904 : BitVec 32 := Scalar.muli v7 c1_i32_833
  let v905 : BitVec 32 := Scalar.addi c0_i32_834 v904
  v905.toNat
def k0_dev26 (d0 : Dev nD) : Nat :=
  let c0_i32_877 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_876 : BitVec 32 := 1#32
  let v947 : BitVec 32 := Scalar.muli v5 c1_i32_876
  let v948 : BitVec 32 := Scalar.addi c0_i32_877 v947
  v948.toNat
def k0_dev27 (d0 : Dev nD) : Nat :=
  let c0_i32_921 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_920 : BitVec 32 := 1#32
  let v995 : BitVec 32 := Scalar.muli v7 c1_i32_920
  let v996 : BitVec 32 := Scalar.addi c0_i32_921 v995
  v996.toNat
def k0_dev28 (d0 : Dev nD) : Nat :=
  let c0_i32_965 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_964 : BitVec 32 := 1#32
  let v1042 : BitVec 32 := Scalar.muli v5 c1_i32_964
  let v1043 : BitVec 32 := Scalar.addi c0_i32_965 v1042
  v1043.toNat
def k0_dev29 (d0 : Dev nD) : Nat :=
  let c0_i32_1010 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1009 : BitVec 32 := 1#32
  let v1090 : BitVec 32 := Scalar.muli v7 c1_i32_1009
  let v1091 : BitVec 32 := Scalar.addi c0_i32_1010 v1090
  v1091.toNat
def k0_dev30 (d0 : Dev nD) : Nat :=
  let c0_i32_1054 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1053 : BitVec 32 := 1#32
  let v1137 : BitVec 32 := Scalar.muli v5 c1_i32_1053
  let v1138 : BitVec 32 := Scalar.addi c0_i32_1054 v1137
  v1138.toNat
def k0_dev31 (d0 : Dev nD) : Nat :=
  let c0_i32_1099 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1098 : BitVec 32 := 1#32
  let v1185 : BitVec 32 := Scalar.muli v7 c1_i32_1098
  let v1186 : BitVec 32 := Scalar.addi c0_i32_1099 v1185
  v1186.toNat
def k0_dev32 (d0 : Dev nD) : Nat :=
  let c0_i32_1143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1142 : BitVec 32 := 1#32
  let v1232 : BitVec 32 := Scalar.muli v5 c1_i32_1142
  let v1233 : BitVec 32 := Scalar.addi c0_i32_1143 v1232
  v1233.toNat
def k0_dev33 (d0 : Dev nD) : Nat :=
  let c0_i32_1188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1187 : BitVec 32 := 1#32
  let v1280 : BitVec 32 := Scalar.muli v7 c1_i32_1187
  let v1281 : BitVec 32 := Scalar.addi c0_i32_1188 v1280
  v1281.toNat
def k0_dev34 (d0 : Dev nD) : Nat :=
  let c0_i32_1232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1231 : BitVec 32 := 1#32
  let v1327 : BitVec 32 := Scalar.muli v5 c1_i32_1231
  let v1328 : BitVec 32 := Scalar.addi c0_i32_1232 v1327
  v1328.toNat
def k0_off9 (d0 : Dev nD) (c0_i32_1247 : BitVec 32) (c0_i32_1255 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1345 : BitVec 32 := Scalar.subi v2 c0_i32_1247
  let c4_i32_1248 : BitVec 32 := 4#32
  let v1346 : BitVec 32 := Scalar.addi v1345 c4_i32_1248
  let c4_i32_1249 : BitVec 32 := 4#32
  let v1347 : BitVec 32 := Scalar.remsi v1346 c4_i32_1249
  let c1024_i32_1253 : BitVec 32 := 1024#32
  let v1351 : BitVec 32 := Scalar.muli v1347 c1024_i32_1253
  let c0_i32_1254 : BitVec 32 := 0#32
  let v1352 : BitVec 32 := Scalar.addi v1351 c0_i32_1254
  let v1353 : BitVec 32 := Scalar.addi v1352 c0_i32_1255
  let v1354 : Index := Scalar.indexCast v1353
  let c0_1256 : Index := 0#32
  ![v1354.toNat, 0]
def k0_dev35 (d0 : Dev nD) : Nat :=
  let c0_i32_1262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1261 : BitVec 32 := 1#32
  let v1356 : BitVec 32 := Scalar.muli v7 c1_i32_1261
  let v1357 : BitVec 32 := Scalar.addi c0_i32_1262 v1356
  v1357.toNat
def k0_off10 (d0 : Dev nD) (c0_i32_1277 : BitVec 32) (c0_i32_1284 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1374 : BitVec 32 := Scalar.addi v2 c0_i32_1277
  let c4_i32_1278 : BitVec 32 := 4#32
  let v1375 : BitVec 32 := Scalar.remsi v1374 c4_i32_1278
  let c1024_i32_1282 : BitVec 32 := 1024#32
  let v1379 : BitVec 32 := Scalar.muli v1375 c1024_i32_1282
  let c512_i32_1283 : BitVec 32 := 512#32
  let v1380 : BitVec 32 := Scalar.addi v1379 c512_i32_1283
  let v1381 : BitVec 32 := Scalar.addi v1380 c0_i32_1284
  let v1382 : Index := Scalar.indexCast v1381
  let c0_1285 : Index := 0#32
  ![v1382.toNat, 0]
def k0_dev36 (d0 : Dev nD) : Nat :=
  let c0_i32_1291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1290 : BitVec 32 := 1#32
  let v1384 : BitVec 32 := Scalar.muli v5 c1_i32_1290
  let v1385 : BitVec 32 := Scalar.addi c0_i32_1291 v1384
  v1385.toNat
def k0_dev37 (d0 : Dev nD) : Nat :=
  let c0_i32_1321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1320 : BitVec 32 := 1#32
  let v1413 : BitVec 32 := Scalar.muli v7 c1_i32_1320
  let v1414 : BitVec 32 := Scalar.addi c0_i32_1321 v1413
  v1414.toNat
def k0_dev38 (d0 : Dev nD) : Nat :=
  let c0_i32_1350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1349 : BitVec 32 := 1#32
  let v1441 : BitVec 32 := Scalar.muli v5 c1_i32_1349
  let v1442 : BitVec 32 := Scalar.addi c0_i32_1350 v1441
  v1442.toNat
def k0_dev39 (d0 : Dev nD) : Nat :=
  let c0_i32_1380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1379 : BitVec 32 := 1#32
  let v1470 : BitVec 32 := Scalar.muli v7 c1_i32_1379
  let v1471 : BitVec 32 := Scalar.addi c0_i32_1380 v1470
  v1471.toNat
def k0_dev40 (d0 : Dev nD) : Nat :=
  let c0_i32_1409 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1408 : BitVec 32 := 1#32
  let v1498 : BitVec 32 := Scalar.muli v5 c1_i32_1408
  let v1499 : BitVec 32 := Scalar.addi c0_i32_1409 v1498
  v1499.toNat
def k0_dev41 (d0 : Dev nD) : Nat :=
  let c0_i32_1439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1438 : BitVec 32 := 1#32
  let v1527 : BitVec 32 := Scalar.muli v7 c1_i32_1438
  let v1528 : BitVec 32 := Scalar.addi c0_i32_1439 v1527
  v1528.toNat
def k0_dev42 (d0 : Dev nD) : Nat :=
  let c0_i32_1468 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1467 : BitVec 32 := 1#32
  let v1555 : BitVec 32 := Scalar.muli v5 c1_i32_1467
  let v1556 : BitVec 32 := Scalar.addi c0_i32_1468 v1555
  v1556.toNat
def k0_dev43 (d0 : Dev nD) : Nat :=
  let c0_i32_1498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1497 : BitVec 32 := 1#32
  let v1584 : BitVec 32 := Scalar.muli v7 c1_i32_1497
  let v1585 : BitVec 32 := Scalar.addi c0_i32_1498 v1584
  v1585.toNat
def k0_dev44 (d0 : Dev nD) : Nat :=
  let c0_i32_1527 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1526 : BitVec 32 := 1#32
  let v1612 : BitVec 32 := Scalar.muli v5 c1_i32_1526
  let v1613 : BitVec 32 := Scalar.addi c0_i32_1527 v1612
  v1613.toNat
def k0_dev45 (d0 : Dev nD) : Nat :=
  let c0_i32_1557 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1556 : BitVec 32 := 1#32
  let v1641 : BitVec 32 := Scalar.muli v7 c1_i32_1556
  let v1642 : BitVec 32 := Scalar.addi c0_i32_1557 v1641
  v1642.toNat
def k0_dev46 (d0 : Dev nD) : Nat :=
  let c0_i32_1586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1585 : BitVec 32 := 1#32
  let v1669 : BitVec 32 := Scalar.muli v5 c1_i32_1585
  let v1670 : BitVec 32 := Scalar.addi c0_i32_1586 v1669
  v1670.toNat
def k0_dev47 (d0 : Dev nD) : Nat :=
  let c0_i32_1616 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1615 : BitVec 32 := 1#32
  let v1698 : BitVec 32 := Scalar.muli v7 c1_i32_1615
  let v1699 : BitVec 32 := Scalar.addi c0_i32_1616 v1698
  v1699.toNat
def k0_dev48 (d0 : Dev nD) : Nat :=
  let c0_i32_1645 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1644 : BitVec 32 := 1#32
  let v1726 : BitVec 32 := Scalar.muli v5 c1_i32_1644
  let v1727 : BitVec 32 := Scalar.addi c0_i32_1645 v1726
  v1727.toNat
def k0_dev49 (d0 : Dev nD) : Nat :=
  let c0_i32_1675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1674 : BitVec 32 := 1#32
  let v1755 : BitVec 32 := Scalar.muli v7 c1_i32_1674
  let v1756 : BitVec 32 := Scalar.addi c0_i32_1675 v1755
  v1756.toNat
def k0_dev50 (d0 : Dev nD) : Nat :=
  let c0_i32_1704 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1703 : BitVec 32 := 1#32
  let v1783 : BitVec 32 := Scalar.muli v5 c1_i32_1703
  let v1784 : BitVec 32 := Scalar.addi c0_i32_1704 v1783
  v1784.toNat
abbrev stage0_0 : Fin 1 → Memref sig .tc .vmem S4096x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Steps.lean ====
module

public import proofs.«01_k».proof.Proof.Gen.KernelIdeal.Skeleton

/-! # The kernel's body as a sequence of steps

The printed body is a long straight line. Here the same line is written as a few step programs, each at a symbolic
ring `r` (`false` is clockwise, `true` counter-clockwise), phase and piece `b`. -/

@[expose] public section

noncomputable section

namespace Cert.KernelIdeal.Steps

open Idealize.ShloMosaic Idealize.SL.Sem
open Gen

variable {F : FTy → Type} [FloatOps F]

abbrev P (F : FTy → Type) (α : Type) : Type 1 := Prog (TpuEff nD τ sig (Elt F) Λ₀ .tc) α

/-! ## Memrefs, by ring -/

abbrev xM : Memref sig .tc .vmem S4096x1024 .i8 := Memref.whole cc0_stg0_0
abbrev wM : Memref sig .tc .vmem S1024x2048 .i8 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x2048 .f32 := Memref.whole cc0_stg4_0

/-- The ring's receive buffer, of three slots. -/
def commM : Bool → Memref sig .tc .vmem S3x512x2048 .bf16
  | false => Memref.whole cc0_scratch0
  | true => Memref.whole cc0_scratch1

/-- The ring's staging buffer, of two slots. -/
def stageM : Bool → Memref sig .tc .vmem S2x512x2048 .bf16
  | false => Memref.whole cc0_scratch2
  | true => Memref.whole cc0_scratch3

theorem commW : ∀ r, (commM r).IsWhole
  | false => Memref.isWhole_whole _
  | true => Memref.isWhole_whole _

theorem stageW : ∀ r, (stageM r).IsWhole
  | false => Memref.isWhole_whole _
  | true => Memref.isWhole_whole _

/-! ## Pieces -/

theorem comm_inb (k : Fin 3) (b : Fin 4) : ∀ a, (![k.val, 128 * b.val, 0] : Fin 3 → ℕ) a + S1x128x2048.size a ≤ S3x512x2048.size a := by
  revert k b; decide +kernel
theorem stage_inb (k : Fin 2) (b : Fin 4) : ∀ a, (![k.val, 128 * b.val, 0] : Fin 3 → ℕ) a + S1x128x2048.size a ≤ S2x512x2048.size a := by
  revert k b; decide +kernel

/-- Piece `b` of slot `k` of a receive buffer. -/
abbrev commR (k : Fin 3) (b : Fin 4) : Rect S3x512x2048 := Rect.unit (s := S3x512x2048) ![k.val, 128 * b.val, 0] S1x128x2048.size (comm_inb k b)
/-- Piece `b` of slot `k` of a staging buffer. -/
abbrev stageR (k : Fin 2) (b : Fin 4) : Rect S2x512x2048 := Rect.unit (s := S2x512x2048) ![k.val, 128 * b.val, 0] S1x128x2048.size (stage_inb k b)

theorem commR_words (k : Fin 3) (b : Fin 4) : (commR k b).WholeWords (EltTy.packing .bf16) := by
  revert k b; decide +kernel
theorem stageR_words (k : Fin 2) (b : Fin 4) : (stageR k b).WholeWords (EltTy.packing .bf16) := by
  revert k b; decide +kernel
theorem stageR_packed (k : Fin 2) (b : Fin 4) : (stageR k b).PackedRows (EltTy.packing .bf16) := by
  revert k b; decide +kernel

abbrev commS (r : Bool) (k : Fin 3) (b : Fin 4) : Memref sig .tc .vmem S1x128x2048 .bf16 := (commM r).slice (commR k b) (fun _ => rfl)
abbrev stageS (r : Bool) (k : Fin 2) (b : Fin 4) : Memref sig .tc .vmem S1x128x2048 .bf16 := (stageM r).slice (stageR k b) (fun _ => rfl)
abbrev commV (r : Bool) (k : Fin 3) (b : Fin 4) : Memref sig .tc .vmem S128x2048 .bf16 := (commS r k b).squeeze S128x2048 squeezes_S1x128x2048_S128x2048
abbrev stageV (r : Bool) (k : Fin 2) (b : Fin 4) : Memref sig .tc .vmem S128x2048 .bf16 := (stageS r k b).squeeze S128x2048 squeezes_S1x128x2048_S128x2048

/-! ## The output's and input's bands -/

theorem off1_inb (d : Dev nD) (r : Bool) (b : Fin 4) : ∀ a, (k0_off1 d (BitVec.ofNat 32 (512 * r.toNat)) (BitVec.ofNat 32 (128 * b.val))) a + S128x1024.size a ≤ S4096x1024.size a := by
  cases r
  · exact k0_off1_inb d 0 b
  · exact k0_off1_inb d 1 b
theorem off2_inb (d : Dev nD) (r : Bool) (b : Fin 4) : ∀ a, (k0_off2 d (BitVec.ofNat 32 (512 * r.toNat)) (BitVec.ofNat 32 (128 * b.val))) a + S128x2048.size a ≤ S4096x2048.size a := by
  cases r
  · exact k0_off2_inb d 0 b
  · exact k0_off2_inb d 1 b

/-- The band of the own chunk's rows of the input that device `d` works on first. -/
abbrev xR (d : Dev nD) (r : Bool) (b : Fin 4) : Rect S4096x1024 :=
  Rect.unit (s := S4096x1024) (k0_off1 d (BitVec.ofNat 32 (512 * r.toNat)) (BitVec.ofNat 32 (128 * b.val))) S128x1024.size (off1_inb d r b)
abbrev wR : Rect S1024x2048 := Rect.unit (s := S1024x2048) ![0, 0] S1024x2048.size inb_S1024x2048_S1024x2048_0_0

/-- Rectangles of an output band's size, as the offsets that place them. -/
structure Band where
  off : Fin 2 → ℕ
  inb : ∀ a, off a + S128x2048.size a ≤ S4096x2048.size a

abbrev Band.rect (B : Band) : Rect S4096x2048 := Rect.unit (s := S4096x2048) B.off S128x2048.size B.inb

abbrev ownB (d : Dev nD) (r : Bool) (b : Fin 4) : Band := ⟨k0_off2 d (BitVec.ofNat 32 (512 * r.toNat)) (BitVec.ofNat 32 (128 * b.val)), off2_inb d r b⟩
def rsB (d : Dev nD) (s : Fin 3) (b : Fin 4) : Bool → Band
  | false => ⟨k0_off7 d (BitVec.ofNat 32 s.val) (BitVec.ofNat 32 (128 * b.val)), k0_off7_inb d s b⟩
  | true => ⟨k0_off8 d (BitVec.ofNat 32 s.val) (BitVec.ofNat 32 (128 * b.val)), k0_off8_inb d s b⟩
def agB (d : Dev nD) (t : Fin 3) (b : Fin 4) : Bool → Band
  | false => ⟨k0_off9 d (BitVec.ofNat 32 t.val) (BitVec.ofNat 32 (128 * b.val)), k0_off9_inb d t b⟩
  | true => ⟨k0_off10 d (BitVec.ofNat 32 t.val) (BitVec.ofNat 32 (128 * b.val)), k0_off10_inb d t b⟩

/-- The three chunks a device computes after its own. -/
structure Chunk where
  xoff : Fin 2 → ℕ
  xinb : ∀ a, xoff a + S1024x1024.size a ≤ S4096x1024.size a
  ooff : Fin 2 → ℕ
  oinb : ∀ a, ooff a + S1024x2048.size a ≤ S4096x2048.size a

def chunkAt (d : Dev nD) : Fin 3 → Chunk
  | 0 => ⟨k0_off3 d, k0_off3_inb d, k0_off4 d, k0_off4_inb d⟩
  | 1 => ⟨k0_off5 d (BitVec.ofNat 32 1), k0_off5_inb d 0, k0_off6 d (BitVec.ofNat 32 1), k0_off6_inb d 0⟩
  | 2 => ⟨k0_off5 d (BitVec.ofNat 32 2), k0_off5_inb d 1, k0_off6 d (BitVec.ofNat 32 2), k0_off6_inb d 1⟩

/-! ## Semaphores and targets -/

abbrev barS : Sem sig := (SemArray.scalar (sig.barrier 0 rfl) : Sems sig S_).sem

theorem sem_inb (i : Fin 12) : ∀ a, (![i.val] : Fin 1 → ℕ) a + S1.size a ≤ S12.size a := by revert i; decide
/-- Entry `i` of an array of twelve semaphores. -/
abbrev semAt (A : DmaSems sig S12) (i : Fin 12) : DmaSems sig S_ := (A.slice (Rect.unit (s := S12) ![i.val] S1.size (sem_inb i))).squeeze S_ squeezes_S1_S_
/-- The entry of phase `s` and piece `b`. -/
abbrev ix (s : Fin 3) (b : Fin 4) : Fin 12 := ⟨4 * s.val + b.val, by have := s.2; have := b.2; omega⟩

/-- The send and receive semaphores of the reduce phases, and of the gather phases. -/
def rsSend : Bool → DmaSems sig S12 | false => cc0_scratch4 | true => cc0_scratch6
def rsRecv : Bool → DmaSems sig S12 | false => cc0_scratch5 | true => cc0_scratch7
def agSend : Bool → DmaSems sig S12 | false => cc0_scratch8 | true => cc0_scratch10
def agRecv : Bool → DmaSems sig S12 | false => cc0_scratch9 | true => cc0_scratch11

/-- The neighbour a ring sends to. -/
def tgt (d : Dev nD) : Bool → Dev nD
  | false => ⟨k0_dev3 d, k0_dev3_lt d⟩
  | true => ⟨k0_dev4 d, k0_dev4_lt d⟩

/-! ## The values stored -/

/-- The partial product of a band of rows. -/
abbrev pBand (x : Vec F S128x1024 .i8) (w : Vec F S1024x2048 .i8) : FVec F S128x2048 .f32 := k0_pay2 x w
/-- A band rounded to the narrow format, in the shape of a message. -/
def pMsg (v : FVec F S128x2048 .f32) : FVec F S1x128x2048 .bf16 :=
  shapeCast S1x128x2048 (truncf .bf16 v bitsLt_bf16_f32) shapeCasts_S128x2048_S1x128x2048
/-- A band plus a received message. -/
abbrev pAdd (o : Vec F S128x2048 .f32) (q : Vec F S1x128x2048 .bf16) : FVec F S128x2048 .f32 := k0_pay24 o q
/-- The last reduce phase: add, scale, clamp below at zero. -/
abbrev pFin (v15 : F .f32) (o : Vec F S128x2048 .f32) (q : Vec F S1x128x2048 .bf16) : FVec F S128x2048 .f32 := k0_pay61 v15 o q
/-- A received message widened. -/
abbrev pExt (q : Vec F S1x128x2048 .bf16) : FVec F S128x2048 .f32 := k0_pay78 q
/-- The partial product of a chunk of rows. -/
abbrev pChunk (x : Vec F S1024x1024 .i8) (w : Vec F S1024x2048 .i8) : FVec F S1024x2048 .f32 := k0_pay21 x w

/-! ## Single operations -/

def ldOut (B : Band) : P F (Vec F S128x2048 .f32) := Prog.lift (.load oM B.rect.toLoadRect (View.loadsAt_vmem Gen.h_S128x2048))
def stOut (B : Band) (v : FVec F S128x2048 .f32) : P F PUnit :=
  Prog.lift (.store oM B.rect v Finset.univ (View.stores_vmem_bits_univ Gen.h_S128x2048 rfl) (.inl rfl))
def ldComm (r : Bool) (k : Fin 3) (b : Fin 4) : P F (Vec F S1x128x2048 .bf16) := Prog.lift (.load (commM r) (commR k b).toLoadRect (View.loadsAt_vmem Gen.h_S1x128x2048))
def ldStage (r : Bool) (k : Fin 2) (b : Fin 4) : P F (Vec F S1x128x2048 .bf16) := Prog.lift (.load (stageM r) (stageR k b).toLoadRect (View.loadsAt_vmem Gen.h_S1x128x2048))
def stStage (r : Bool) (k : Fin 2) (b : Fin 4) (v : FVec F S1x128x2048 .bf16) : P F PUnit :=
  Prog.lift (.store (stageM r) (stageR k b) v Finset.univ (View.stores_vmem Gen.h_S1x128x2048 ((stageW r).storeExact_slice rfl _ (stageR_packed k b)) (fun _ => rfl)) (.inl rfl))

theorem commV_exact (r : Bool) (k : Fin 3) (b : Fin 4) : (commV r k b).view.WordExact := ((commW r).wordExact_slice rfl _ (commR_words k b)).reshape _ _
theorem stageV_exact (r : Bool) (k : Fin 2) (b : Fin 4) : (stageV r k b).view.WordExact := ((stageW r).wordExact_slice rfl _ (stageR_words k b)).reshape _ _

/-- Send a staged piece into the neighbour's receive slot `k'`. -/
def sendStage (d : Dev nD) (r : Bool) (k : Fin 2) (k' : Fin 3) (b : Fin 4) (sS rS : DmaSems sig S_) : P F PUnit :=
  Prog.lift (.enqueueDma (stageV r k b) (.remote (Dev.tc (tgt d r)) (commV r k' b) (.dma sS.sem)) (.dma rS.sem) (stageV_exact r k b) (commV_exact r k' b) ⟨⟨rfl, Or.inl rfl⟩, trivial⟩)
/-- Pass a received piece on into the neighbour's receive slot `k'`. -/
def sendComm (d : Dev nD) (r : Bool) (k : Fin 3) (k' : Fin 3) (b : Fin 4) (sS rS : DmaSems sig S_) : P F PUnit :=
  Prog.lift (.enqueueDma (commV r k b) (.remote (Dev.tc (tgt d r)) (commV r k' b) (.dma sS.sem)) (.dma rS.sem) (commV_exact r k b) (commV_exact r k' b) ⟨⟨rfl, Or.inl rfl⟩, trivial⟩)

/-- Wait on a semaphore for a piece's worth, named by two of its memrefs. -/
def waitSC (r : Bool) (k : Fin 2) (k' : Fin 3) (b : Fin 4) (S : DmaSems sig S_) : P F PUnit :=
  Prog.lift (.waitDma2 S.sem (stageV r k b) (commV r k' b) (stageV_exact r k b) (commV_exact r k' b))
def waitCS (r : Bool) (k : Fin 2) (k' : Fin 3) (b : Fin 4) (S : DmaSems sig S_) : P F PUnit :=
  Prog.lift (.waitDma2 S.sem (commV r k' b) (stageV r k b) (commV_exact r k' b) (stageV_exact r k b))
def waitCC (r : Bool) (k k' : Fin 3) (b : Fin 4) (S : DmaSems sig S_) : P F PUnit :=
  Prog.lift (.waitDma2 S.sem (commV r k b) (commV r k' b) (commV_exact r k b) (commV_exact r k' b))

/-! ## The steps -/

/-- A piece's first step: its own partial product, kept and sent. -/
def initP (d : Dev nD) (b : Fin 4) (r : Bool) : P F PUnit := do
  let x : Vec F S128x1024 .i8 ← Prog.lift (.load xM (xR d r b).toLoadRect (View.loadsAt_vmem Gen.h_S128x1024))
  let w : Vec F S1024x2048 .i8 ← Prog.lift (.load wM wR.toLoadRect (View.loadsAt_vmem Gen.h_S1024x2048))
  let _ ← ldOut (ownB d r b)
  stOut (ownB d r b) (pBand x w)
  let _ ← ldStage r 0 b
  stStage r 0 b (pMsg (pBand x w))
  sendStage d r 0 0 b (semAt (rsSend r) (ix 0 b)) (semAt (rsRecv r) (ix 0 b))

/-- The partial product of another chunk. -/
def chunkP (K : Chunk) : P F PUnit := do
  let x : Vec F S1024x1024 .i8 ← Prog.lift (.load xM (Rect.unit (s := S4096x1024) K.xoff S1024x1024.size K.xinb).toLoadRect (View.loadsAt_vmem Gen.h_S1024x1024))
  let w : Vec F S1024x2048 .i8 ← Prog.lift (.load wM wR.toLoadRect (View.loadsAt_vmem Gen.h_S1024x2048))
  let _ : Vec F S1024x2048 .f32 ← Prog.lift (.load oM (Rect.unit (s := S4096x2048) K.ooff S1024x2048.size K.oinb).toLoadRect (View.loadsAt_vmem Gen.h_S1024x2048))
  Prog.lift (.store oM (Rect.unit (s := S4096x2048) K.ooff S1024x2048.size K.oinb) (pChunk x w) Finset.univ (View.stores_vmem_bits_univ Gen.h_S1024x2048 rfl) (.inl rfl))

/-- The staging slot of a reduce phase. -/
def par : Fin 3 → Fin 2 | 0 => 0 | 1 => 1 | 2 => 0

/-- A reduce phase before the last: wait, add, pass the sum on. -/
def rsP (d : Dev nD) (s : Fin 3) (k' : Fin 2) (s' : Fin 3) (b : Fin 4) (r : Bool) : P F PUnit := do
  waitCS r (par s) s b (semAt (rsSend r) (ix s b))
  waitSC r (par s) s b (semAt (rsRecv r) (ix s b))
  let o ← ldOut (rsB d s b r)
  let q ← ldComm r s b
  let _ ← ldOut (rsB d s b r)
  stOut (rsB d s b r) (pAdd o q)
  let _ ← ldStage r k' b
  stStage r k' b (pMsg (pAdd o q))
  sendStage d r k' s' b (semAt (rsSend r) (ix s' b)) (semAt (rsRecv r) (ix s' b))

/-- The last reduce phase: the chunk is finished, and its gather begins. -/
def rsLastP (v15 : F .f32) (d : Dev nD) (b : Fin 4) (r : Bool) : P F PUnit := do
  waitCS r 0 2 b (semAt (rsSend r) (ix 2 b))
  waitSC r 0 2 b (semAt (rsRecv r) (ix 2 b))
  let o ← ldOut (rsB d 2 b r)
  let q ← ldComm r 2 b
  let _ ← ldOut (rsB d 2 b r)
  stOut (rsB d 2 b r) (pFin v15 o q)
  let _ ← ldStage r 0 b
  stStage r 0 b (pMsg (pFin v15 o q))
  sendStage d r 0 0 b (semAt (agSend r) (ix 0 b)) (semAt (agRecv r) (ix 0 b))

/-- A gather phase before the last: wait, store, pass the piece on. -/
def agP (d : Dev nD) (t t' : Fin 3) (b : Fin 4) (r : Bool) : P F PUnit := do
  waitCC r t t b (semAt (agRecv r) (ix t b))
  let q ← ldComm r t b
  let _ ← ldOut (agB d t b r)
  stOut (agB d t b r) (pExt q)
  sendComm d r t t' b (semAt (agSend r) (ix t' b)) (semAt (agRecv r) (ix t' b))

/-- The last gather phase: wait and store. -/
def agLastP (d : Dev nD) (b : Fin 4) (r : Bool) : P F PUnit := do
  waitCC r 2 2 b (semAt (agRecv r) (ix 2 b))
  let q ← ldComm r 2 b
  let _ ← ldOut (agB d 2 b r)
  stOut (agB d 2 b r) (pExt q)

/-- The closing waits: the gather's sends have left. -/
def endP0 (b : Fin 4) (r : Bool) : P F PUnit := waitCS r 0 0 b (semAt (agSend r) (ix 0 b))
def endP (t t' : Fin 3) (b : Fin 4) (r : Bool) : P F PUnit := waitCC r t t' b (semAt (agSend r) (ix t b))

/-- A step for every piece, clockwise then counter-clockwise. -/
def lanes (f : Fin 4 → Bool → P F PUnit) : P F PUnit := do
  f 0 false; f 0 true; f 1 false; f 1 true; f 2 false; f 2 true; f 3 false; f 3 true

/-- The entry barrier and the scale. -/
def entryP (d : Dev nD) : P F (F .f32) := do
  semSignalWord (⟨k0_dev1 d, k0_dev1_lt d⟩ : Dev nD) barS 1#32
  semSignalWord (⟨k0_dev2 d, k0_dev2_lt d⟩ : Dev nD) barS 1#32
  semWaitWord barS 2#32
  let a : Elt F .f32 ← smemLoad sxM (Rect.unit (s := S1) ![0] S1.size inb_S1_S1_0) numel1_S1 rfl
  let c : Elt F .f32 ← smemLoad swM (Rect.unit (s := S1) ![0] S1.size inb_S1_S1_0) numel1_S1 rfl
  pure (k0_pay1 a c)

/-- The whole body. -/
def bodyP : P F PUnit := do
  let d : Dev nD ← Prog.lift .deviceId
  let v15 : F .f32 ← entryP d
  lanes (initP d)
  chunkP (chunkAt d 0)
  chunkP (chunkAt d 1)
  chunkP (chunkAt d 2)
  lanes (rsP d 0 1 1)
  lanes (rsP d 1 0 2)
  lanes (rsLastP v15 d)
  lanes (agP d 0 1)
  lanes (agP d 1 2)
  lanes (agLastP d)
  lanes endP0
  lanes (endP 1 0)
  lanes (endP 2 1)

end Cert.KernelIdeal.Steps
-- ==== Proof.Proto.lean ====
module

public import proofs.«01_k».proof.Proof.Steps
public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Tactic

/-! # The protocol of the two rings

Forty-eight messages leave every device: six phases (`σ`, three of the reduce and three of the gather), four pieces
(`b`) and two rings (`r`). A message has one semaphore on which its sender learns that its source is free again, and
one at the receiver. Here are the cells, the contents of every message, and what each cell hands over. -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The rings -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

/-- Whom a device sends to on a ring, -/
def dst : Bool → Dev nD → Dev nD | false => nxt | true => prv
/-- and whom it receives from. -/
def src : Bool → Dev nD → Dev nD | false => prv | true => nxt

theorem src_dst (r : Bool) (c : Dev nD) : src r (dst r c) = c := by revert r c; decide
theorem dst_src (r : Bool) (c : Dev nD) : dst r (src r c) = c := by revert r c; decide
theorem dst_not (r : Bool) (c : Dev nD) : dst (!r) c = src r c := by cases r <;> rfl
theorem dst_not_dst (r : Bool) (c : Dev nD) : dst (!r) (dst r c) = c := by rw [dst_not, src_dst]

theorem tgt_eq (c : Dev nD) (r : Bool) : tgt c r = dst r c := by revert r c; decide +kernel
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)

def ringE (r : Bool) : Dev nD ≃ Dev nD := ⟨dst r, src r, src_dst r, dst_src r⟩

/-! ## Messages and their semaphores -/

/-- A message's semaphores: at the receiver (`true`) or at the sender; phase; ring; piece. -/
abbrev Mid : Type := Bool × Fin 6 × Bool × Fin 4

def mqN (x : Mid) : ℕ := 5 + 48 * (x.2.1.val / 3) + 24 * x.2.2.1.toNat + 12 * x.1.toNat + 4 * (x.2.1.val % 3) + x.2.2.2.val
theorem mqN_lt (x : Mid) : mqN x < 101 := by revert x; decide +kernel
set_option backward.proofsInPublic true in
def mq (x : Mid) : DmaSem sig := (⟨mqN x, mqN_lt x⟩ : Fin 101)
set_option backward.proofsInPublic true in
/-- Which message a semaphore is of. -/
def dec (q : DmaSem sig) : Mid :=
  let n : ℕ := (show Fin 101 from q).val - 5
  (decide ((n / 12) % 2 = 1), ⟨(3 * (n / 48) + (n % 12) / 4) % 6, Nat.mod_lt _ (by decide)⟩, decide ((n / 24) % 2 = 1), ⟨n % 4, Nat.mod_lt _ (by decide)⟩)
/-- The semaphores that are a message's; the lowest five are the staging's. -/
def IsMsg (q : DmaSem sig) : Prop := 5 ≤ (show Fin 101 from q).val
instance (q : DmaSem sig) : Decidable (IsMsg q) := by unfold IsMsg; infer_instance

theorem dec_mq (x : Mid) : dec (mq x) = x := by revert x; decide +kernel
theorem isMsg_mq (x : Mid) : IsMsg (mq x) := by revert x; decide +kernel
theorem mq_inj : Function.Injective mq := fun x y h => by rw [← dec_mq x, h, dec_mq]

abbrev barCell (c : Dev nD) : GSem nD τ sig := ((c : Thread nD τ), .reg barS)
abbrev mcell (c : Dev nD) (x : Mid) : GSem nD τ sig := ((c : Thread nD τ), .dma (mq x))
abbrev scell (c : Dev nD) (σ : Fin 6) (r : Bool) (b : Fin 4) : GSem nD τ sig := mcell c (false, σ, r, b)
abbrev rcell (c : Dev nD) (σ : Fin 6) (r : Bool) (b : Fin 4) : GSem nD τ sig := mcell c (true, σ, r, b)

/-- A reduce phase's message, a gather phase's. -/
def rs (s : Fin 3) : Fin 6 := ⟨s.val, by omega⟩
def ag (s : Fin 3) : Fin 6 := ⟨3 + s.val, by omega⟩

theorem rsSend_eq (r : Bool) (s : Fin 3) (b : Fin 4) : (semAt (rsSend r) (ix s b)).sem = mq (false, rs s, r, b) := by revert r s b; decide +kernel
theorem rsRecv_eq (r : Bool) (s : Fin 3) (b : Fin 4) : (semAt (rsRecv r) (ix s b)).sem = mq (true, rs s, r, b) := by revert r s b; decide +kernel
theorem agSend_eq (r : Bool) (s : Fin 3) (b : Fin 4) : (semAt (agSend r) (ix s b)).sem = mq (false, ag s, r, b) := by revert r s b; decide +kernel
theorem agRecv_eq (r : Bool) (s : Fin 3) (b : Fin 4) : (semAt (agRecv r) (ix s b)).sem = mq (true, ag s, r, b) := by revert r s b; decide +kernel

/-- What a piece's transfer counts for. -/
def N : ℕ := (commV false 0 0).view.dmaCredit
theorem N_pos : 0 < N := View.dmaCredit_pos _ (by decide)
theorem comm_credit (r : Bool) (k : Fin 3) (b : Fin 4) : (commV r k b).view.dmaCredit = N := by cases r <;> rfl
theorem stage_credit (r : Bool) (k : Fin 2) (b : Fin 4) : (stageV r k b).view.dmaCredit = N := by cases r <;> rfl

/-! ## Output bands by chunk, ring and piece -/

theorem abs_inb (k : Fin 4) (r : Bool) (b : Fin 4) : ∀ a, (![1024 * k.val + 512 * r.toNat + 128 * b.val, 0] : Fin 2 → ℕ) a + S128x2048.size a ≤ S4096x2048.size a := by
  revert k r b; decide +kernel
def absB (k : Fin 4) (r : Bool) (b : Fin 4) : Band := ⟨![1024 * k.val + 512 * r.toNat + 128 * b.val, 0], abs_inb k r b⟩

theorem Band.eq_of {B C : Band} (h : B.off = C.off) : B = C := by cases B; cases C; cases h; rfl

/-- The chunk a device adds to in a reduce phase, and the one it stores in a gather phase. -/
def rsK (r : Bool) (s : Fin 3) (c : Dev nD) : Fin 4 := match r with
  | false => ⟨((c.val + 3) - s.val) % 4, Nat.mod_lt _ (by decide)⟩
  | true => ⟨(c.val + s.val + 1) % 4, Nat.mod_lt _ (by decide)⟩
def agK (r : Bool) (t : Fin 3) (c : Dev nD) : Fin 4 := match r with
  | false => ⟨((c.val + 4) - t.val) % 4, Nat.mod_lt _ (by decide)⟩
  | true => ⟨(c.val + t.val) % 4, Nat.mod_lt _ (by decide)⟩

theorem ownB_eq (c : Dev nD) (r : Bool) (b : Fin 4) : ownB c r b = absB c r b := Band.eq_of (by
  cases r
  · exact (k0_off2_eq c 0 b).trans (by simp [absB])
  · exact (k0_off2_eq c 1 b).trans (by simp [absB]))
theorem rsB_eq (c : Dev nD) (s : Fin 3) (b : Fin 4) (r : Bool) : rsB c s b r = absB (rsK r s c) r b := Band.eq_of (by
  cases r
  · exact (k0_off7_eq c s b).trans (by simp [absB, rsK])
  · exact (k0_off8_eq c s b).trans (by simp [absB, rsK]; omega))
theorem agB_eq (c : Dev nD) (t : Fin 3) (b : Fin 4) (r : Bool) : agB c t b r = absB (agK r t c) r b := Band.eq_of (by
  cases r
  · exact (k0_off9_eq c t b).trans (by simp [absB, agK])
  · exact (k0_off10_eq c t b).trans (by simp [absB, agK]; omega))

/-- The chunk number of the `j`-th chunk a device computes after its own. -/
def chK (c : Dev nD) : Fin 3 → Fin 4
  | 0 => ⟨(c.val + 3) % 4, Nat.mod_lt _ (by decide)⟩
  | 1 => ⟨(c.val + 1) % 4, Nat.mod_lt _ (by decide)⟩
  | 2 => ⟨(c.val + 2) % 4, Nat.mod_lt _ (by decide)⟩
theorem chunk_ooff (c : Dev nD) (j : Fin 3) : (chunkAt c j).ooff = ![1024 * (chK c j).val, 0] := by revert c j; decide +kernel
theorem chunk_xoff (c : Dev nD) (j : Fin 3) : (chunkAt c j).xoff = ![1024 * (chK c j).val, 0] := by revert c j; decide +kernel
/-- Which of them a reduce phase adds to. -/
def jRS : Bool → Fin 3 → Fin 3
  | false => ![0, 2, 1]
  | true => ![1, 2, 0]
theorem rsK_eq (r : Bool) (s : Fin 3) (c : Dev nD) : rsK r s c = chK c (jRS r s) := by revert r s c; decide +kernel

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

def xin (c : Dev nD) : (cc0_stg0_0 : Ref sig .tc).ty.Contents (Elt F) := (win0_0.blk (0 : Fin 1)).view.read (Elt F) ((s₀ m ρ).mem ((c : Thread nD τ).loc main_arg0))
def win (c : Dev nD) : (cc0_stg1_0 : Ref sig .tc).ty.Contents (Elt F) := (win0_1.blk (0 : Fin 1)).view.read (Elt F) ((s₀ m ρ).mem ((c : Thread nD τ).loc main_arg1))
def sxin (c : Dev nD) : (cc0_stg2_0 : Ref sig .tc).ty.Contents (Elt F) := (win0_2.blk (0 : Fin 1)).view.read (Elt F) ((s₀ m ρ).mem ((c : Thread nD τ).loc main_arg2))
def swin (c : Dev nD) : (cc0_stg3_0 : Ref sig .tc).ty.Contents (Elt F) := (win0_3.blk (0 : Fin 1)).view.read (Elt F) ((s₀ m ρ).mem ((c : Thread nD τ).loc main_arg3))

abbrev sR : Rect S1 := Rect.unit (s := S1) ![0] S1.size inb_S1_S1_0
/-- The product of the two scales. -/
def scl (c : Dev nD) : F .f32 :=
  k0_pay1 (F := F) ((sxM.access sR).read (Elt F) (sxin m ρ c) (Shape.Idx.first (numel1_S1.symm ▸ Nat.one_pos)))
    ((swM.access sR).read (Elt F) (swin m ρ c) (Shape.Idx.first (numel1_S1.symm ▸ Nat.one_pos)))

/-- The second factor. -/
def wAll (c : Dev nD) : Vec F S1024x2048 .i8 := wM.view.readAt (Elt F) wR.toLoadRect (win m ρ c)
/-- A device's own chunk, by piece. -/
def ownV (r : Bool) (b : Fin 4) (c : Dev nD) : FVec F S128x2048 .f32 := pBand (xM.view.readAt (Elt F) (xR c r b).toLoadRect (xin m ρ c)) (wAll m ρ c)
/-- The chunks it computes after that. -/
def chV (j : Fin 3) (c : Dev nD) : FVec F S1024x2048 .f32 :=
  pChunk (xM.view.readAt (Elt F) (Rect.unit (s := S4096x1024) (chunkAt c j).xoff S1024x1024.size (chunkAt c j).xinb).toLoadRect (xin m ρ c)) (wAll m ρ c)

theorem sub_inb (r : Bool) (b : Fin 4) : ∀ a, (![512 * r.toNat + 128 * b.val, 0] : Fin 2 → ℕ) a + S128x2048.size a ≤ S1024x2048.size a := by
  revert r b; decide +kernel
/-- A piece of a chunk. -/
abbrev subR (r : Bool) (b : Fin 4) : Rect S1024x2048 := Rect.unit (s := S1024x2048) ![512 * r.toNat + 128 * b.val, 0] S128x2048.size (sub_inb r b)
def bandV (j : Fin 3) (r : Bool) (b : Fin 4) (c : Dev nD) : FVec F S128x2048 .f32 := fun i => chV m ρ j c ((subR r b).emb i)

/-- The messages: each phase's from what the phase before received. -/
def msg0 (r : Bool) (b : Fin 4) (c : Dev nD) : FVec F S1x128x2048 .bf16 := pMsg (ownV m ρ r b c)
def acc0 (r : Bool) (b : Fin 4) (c : Dev nD) : FVec F S128x2048 .f32 := pAdd (bandV m ρ (jRS r 0) r b c) (msg0 m ρ r b (src r c))
def msg1 (r : Bool) (b : Fin 4) (c : Dev nD) : FVec F S1x128x2048 .bf16 := pMsg (acc0 m ρ r b c)
def acc1 (r : Bool) (b : Fin 4) (c : Dev nD) : FVec F S128x2048 .f32 := pAdd (bandV m ρ (jRS r 1) r b c) (msg1 m ρ r b (src r c))
def msg2 (r : Bool) (b : Fin 4) (c : Dev nD) : FVec F S1x128x2048 .bf16 := pMsg (acc1 m ρ r b c)
/-- A finished piece. -/
def fin (r : Bool) (b : Fin 4) (c : Dev nD) : FVec F S128x2048 .f32 := pFin (scl m ρ c) (bandV m ρ (jRS r 2) r b c) (msg2 m ρ r b (src r c))
def msg3 (r : Bool) (b : Fin 4) (c : Dev nD) : FVec F S1x128x2048 .bf16 := pMsg (fin m ρ r b c)
def msg4 (r : Bool) (b : Fin 4) (c : Dev nD) : FVec F S1x128x2048 .bf16 := msg3 m ρ r b (src r c)
def msg5 (r : Bool) (b : Fin 4) (c : Dev nD) : FVec F S1x128x2048 .bf16 := msg4 m ρ r b (src r c)
/-- The message of phase `σ` that device `c` sends. -/
def msgV : Fin 6 → Bool → Fin 4 → Dev nD → FVec F S1x128x2048 .bf16
  | 0 => msg0 m ρ | 1 => msg1 m ρ | 2 => msg2 m ρ | 3 => msg3 m ρ | 4 => msg4 m ρ | 5 => msg5 m ρ

/-! ## Pieces owned -/

def commP (c : Dev nD) (r : Bool) (k : Fin 3) (b : Fin 4) (X : FVec F S1x128x2048 .bf16) : sProp 𝕄 := owns (c : Thread nD τ) (commS r k b) fullShare X
def stageP (c : Dev nD) (r : Bool) (k : Fin 2) (b : Fin 4) (X : FVec F S1x128x2048 .bf16) : sProp 𝕄 := owns (c : Thread nD τ) (stageS r k b) fullShare X
abbrev bandM (B : Band) : Memref sig .tc .vmem S128x2048 .f32 := oM.slice B.rect (fun _ => rfl)
def outP (c : Dev nD) (B : Band) (X : FVec F S128x2048 .f32) : sProp 𝕄 := owns (c : Thread nD τ) (bandM B) fullShare X

def commAny (c : Dev nD) (r : Bool) (k : Fin 3) (b : Fin 4) : sProp 𝕄 := iprop(∃ X, commP (F := F) c r k b X)
def stageAny (c : Dev nD) (r : Bool) (k : Fin 2) (b : Fin 4) : sProp 𝕄 := iprop(∃ X, stageP (F := F) c r k b X)
def outAny (c : Dev nD) (B : Band) : sProp 𝕄 := iprop(∃ X, outP (F := F) c B X)

omit [FloatOps F] in
instance commP_storable (c : Dev nD) (r k b X) : BI.Storable (upEmb : UEmb _ 𝕄) (commP (F := F) c r k b X) := by unfold commP; infer_instance
omit [FloatOps F] in
instance stageP_storable (c : Dev nD) (r k b X) : BI.Storable (upEmb : UEmb _ 𝕄) (stageP (F := F) c r k b X) := by unfold stageP; infer_instance
omit [FloatOps F] in
instance commAny_storable (c : Dev nD) (r k b) : BI.Storable (upEmb : UEmb _ 𝕄) (commAny (F := F) c r k b) := by unfold commAny; infer_instance
omit [FloatOps F] in
instance stageAny_storable (c : Dev nD) (r k b) : BI.Storable (upEmb : UEmb _ 𝕄) (stageAny (F := F) c r k b) := by unfold stageAny; infer_instance

/-! ## What each cell hands over -/

/-- The right to send into a slot's piece of the ring's next device. -/
def perm (c : Dev nD) (r : Bool) (k : Fin 3) (b : Fin 4) : sProp 𝕄 := commAny (F := F) (dst r c) r k b

/-- The slot whose right comes with a message: one its sender has emptied, on the other ring. -/
def freed : Fin 6 → Bool → Option (Fin 3)
  | 1, true => some 0 | 2, true => some 1 | 3, true => some 2
  | 2, false => some 0 | 3, false => some 1 | 4, false => some 2
  | _, _ => none

def optPerm (c : Dev nD) (r : Bool) (b : Fin 4) : Option (Fin 3) → sProp 𝕄
  | none => iprop(emp)
  | some k => perm (F := F) c r k b
def extra (c : Dev nD) (σ : Fin 6) (r : Bool) (b : Fin 4) : sProp 𝕄 := optPerm (F := F) c (!r) b (freed σ r)

/-- The slot a message lands in. -/
def slot : Fin 6 → Fin 3 | 0 => 0 | 1 => 1 | 2 => 2 | 3 => 0 | 4 => 1 | 5 => 2

/-- A message's source, free again. -/
def sendPay (c : Dev nD) (σ : Fin 6) (r : Bool) (b : Fin 4) : sProp 𝕄 := match σ with
  | 0 => stageAny (F := F) c r 0 b | 1 => stageAny (F := F) c r 1 b | 2 => stageAny (F := F) c r 0 b
  | 3 => stageAny (F := F) c r 0 b | 4 => commAny (F := F) c r 0 b | 5 => commAny (F := F) c r 1 b
/-- A message landed, and the right that comes with it. -/
def recvPay (c : Dev nD) (σ : Fin 6) (r : Bool) (b : Fin 4) : sProp 𝕄 :=
  iprop(commP c r (slot σ) b (msgV m ρ σ r b (src r c)) ∗ extra (F := F) c σ r b)
def permB (c : Dev nD) (r : Bool) (b : Fin 4) : sProp 𝕄 := iprop(perm (F := F) c r 0 b ∗ perm (F := F) c r 1 b ∗ perm (F := F) c r 2 b)
/-- The entry barrier, from the ring's next device: the right to all its slots. -/
def barPay (c : Dev nD) (r : Bool) : sProp 𝕄 := iprop(permB (F := F) c r 0 ∗ permB (F := F) c r 1 ∗ permB (F := F) c r 2 ∗ permB (F := F) c r 3)

def msgPay (c : Dev nD) (x : Mid) : sProp 𝕄 := if x.1 then recvPay m ρ c x.2.1 x.2.2.1 x.2.2.2 else sendPay (F := F) c x.2.1 x.2.2.1 x.2.2.2

omit [FloatOps F] in
instance perm_storable (c : Dev nD) (r k b) : BI.Storable (upEmb : UEmb _ 𝕄) (perm (F := F) c r k b) := by unfold perm; infer_instance
omit [FloatOps F] in
instance extra_storable (c : Dev nD) (σ r b) : BI.Storable (upEmb : UEmb _ 𝕄) (extra (F := F) c σ r b) := by
  unfold extra; generalize freed σ r = o; cases o <;> (unfold optPerm; infer_instance)
omit [FloatOps F] in
instance sendPay_storable (c : Dev nD) (σ r b) : BI.Storable (upEmb : UEmb _ 𝕄) (sendPay (F := F) c σ r b) := by
  unfold sendPay; split <;> infer_instance
instance recvPay_storable (c : Dev nD) (σ r b) : BI.Storable (upEmb : UEmb _ 𝕄) (recvPay (F := F) m ρ c σ r b) := by unfold recvPay; infer_instance
omit [FloatOps F] in
instance barPay_storable (c : Dev nD) (r) : BI.Storable (upEmb : UEmb _ 𝕄) (barPay (F := F) c r) := by unfold barPay permB; infer_instance
instance msgPay_storable (c : Dev nD) (x) : BI.Storable (upEmb : UEmb _ 𝕄) (msgPay (F := F) m ρ c x) := by unfold msgPay; split <;> infer_instance

abbrev IsBar (g : GSem nD τ sig) : Prop := g.1.2 = .tc ∧ g.2 = .reg barS
/-- A tensor core's message cell. -/
def isXfer (g : GSem nD τ sig) : Prop := g.1.2 = .tc ∧ (match g.2 with | .reg _ => False | .dma q => IsMsg q)
instance (g : GSem nD τ sig) : Decidable (isXfer g) := by
  unfold isXfer; rcases g with ⟨t, _ | _⟩ <;> infer_instance

/-- One round: the barrier has a duty of one unit for each ring, a message's cell one duty of the piece's credit. -/
def ringRd : Rounds.Schedule (GSem nD τ sig) Bool 𝕄 where
  duties g r := if r = 0 ∧ IsBar g then Finset.univ else if r = 0 ∧ isXfer g then {false} else ∅
  unitless _ := False
  amount g _ _ := if g.2 = .reg barS then 1 else N
  payload g _ d := match g.2 with
    | .reg _ => barPay (F := F) g.1.1 d
    | .dma q => msgPay m ρ g.1.1 (dec q)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m ρ).payload g r d) := by
  rcases g with ⟨t, _ | _⟩
  · show BI.Storable upEmb (barPay (F := F) t.1 d); infer_instance
  · show BI.Storable upEmb (msgPay m ρ t.1 (dec _)); infer_instance

section Sched
variable (c : Dev nD) (x : Mid)

theorem not_bar (c : Dev nD) (x : Mid) : ¬ IsBar (mcell c x) := fun h => by cases h.2

theorem duties_bar : (ringRd (F := F) m ρ).duties (barCell c) 0 = Finset.univ := by dsimp only [ringRd]; exact if_pos ⟨rfl, rfl, rfl⟩
theorem duties_msg : (ringRd (F := F) m ρ).duties (mcell c x) 0 = {false} := by
  dsimp only [ringRd]; rw [if_neg (fun h => not_bar c x h.2)]; exact if_pos ⟨rfl, rfl, isMsg_mq x⟩
theorem duties_later (g : GSem nD τ sig) : ∀ r, 1 ≤ r → (ringRd (F := F) m ρ).duties g r = ∅ :=
  fun r hr => by dsimp only [ringRd]; rw [if_neg fun h => by omega, if_neg fun h => by omega]
theorem amount_bar (d : Bool) : (ringRd (F := F) m ρ).amount (barCell c) 0 d = 1 := by dsimp only [ringRd]; exact if_pos rfl
theorem amount_msg (d : Bool) : (ringRd (F := F) m ρ).amount (mcell c x) 0 d = N := by dsimp only [ringRd]; exact if_neg (fun h => by cases h)
theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_msg : (ringRd (F := F) m ρ).expect (mcell c x) 0 = N := by
  unfold Schedule.expect Schedule.amountOf; rw [duties_msg, Finset.sum_singleton, amount_msg]
theorem payload_bar (d : Bool) : (ringRd (F := F) m ρ).payload (barCell c) 0 d = barPay (F := F) c d := rfl
theorem payload_msg (d : Bool) : (ringRd (F := F) m ρ).payload (mcell c x) 0 d = msgPay m ρ c x := by
  show msgPay m ρ c (dec (mq x)) = _; rw [dec_mq]
theorem payload_send (σ r b) (d : Bool) : (ringRd (F := F) m ρ).payload (scell c σ r b) 0 d = sendPay (F := F) c σ r b := by rw [payload_msg]; rfl
theorem payload_recv (σ r b) (d : Bool) : (ringRd (F := F) m ρ).payload (rcell c σ r b) 0 d = recvPay m ρ c σ r b := by rw [payload_msg]; rfl
theorem rest_bar : bigSep ((ringRd (F := F) m ρ).duties (barCell c) 0 \ ∅) (fun d => (ringRd (F := F) m ρ).payload (barCell c) 0 d) = iprop(barPay (F := F) c false ∗ barPay (F := F) c true) := by
  rw [Finset.sdiff_empty, duties_bar, bigSep_univ_eq_bigSepL [false, true] (by decide) (by decide), bigSepL_cons_cons, bigSepL_singleton]; rfl
theorem rest_send (σ r b) : bigSep ((ringRd (F := F) m ρ).duties (scell c σ r b) 0 \ ∅) (fun d => (ringRd (F := F) m ρ).payload (scell c σ r b) 0 d) = sendPay (F := F) c σ r b := by
  rw [Finset.sdiff_empty, duties_msg, bigSep_singleton, payload_send]
theorem rest_recv (σ r b) : bigSep ((ringRd (F := F) m ρ).duties (rcell c σ r b) 0 \ ∅) (fun d => (ringRd (F := F) m ρ).payload (rcell c σ r b) 0 d) = recvPay m ρ c σ r b := by
  rw [Finset.sdiff_empty, duties_msg, bigSep_singleton, payload_recv]

end Sched

/-! ## The order of the messages, and the levels -/

/-- A message's place in the order a device sends them. -/
def idx (σ : Fin 6) (r : Bool) (b : Fin 4) : ℕ := 8 * σ.val + 2 * b.val + r.toNat
set_option backward.proofsInPublic true in
/-- The receiving cell of device `c`'s `i`-th message. -/
def ocell (c : Dev nD) (i : ℕ) : GSem nD τ sig :=
  rcell (dst (decide (i % 2 = 1)) c) ⟨i / 8 % 6, Nat.mod_lt _ (by decide)⟩ (decide (i % 2 = 1)) ⟨i % 8 / 2, by omega⟩

theorem ocell_idx (c : Dev nD) (σ : Fin 6) (r : Bool) (b : Fin 4) : ocell c (idx σ r b) = rcell (dst r c) σ r b := by
  have h1 : decide (idx σ r b % 2 = 1) = r := by revert σ r b; decide
  have h2 : idx σ r b / 8 % 6 = σ.val := by revert σ r b; decide
  have h3 : idx σ r b % 8 / 2 = b.val := by revert σ r b; decide
  unfold ocell
  simp only [h1, h2, h3]
theorem idx_lt (σ : Fin 6) (r : Bool) (b : Fin 4) : idx σ r b < 48 := by revert σ r b; decide

/-- What device `c` still owes once it has sent its first `n` messages: a piece's credit at each later one's cell. -/
def Orem (c : Dev nD) (n : ℕ) : CellTallies nD τ sig Unit := ∑ i ∈ Finset.Ico n 48, tallyAt (ocell c i) () N
theorem Orem_step (c : Dev nD) (σ : Fin 6) (r : Bool) (b : Fin 4) :
    Orem c (idx σ r b) = Orem c (idx σ r b + 1) + tallyAt (rcell (dst r c) σ r b) () N := by
  unfold Orem
  have h : Finset.Ico (idx σ r b) 48 = insert (idx σ r b) (Finset.Ico (idx σ r b + 1) 48) := by
    have := idx_lt σ r b
    ext i; rw [Finset.mem_insert, Finset.mem_Ico, Finset.mem_Ico]; omega
  rw [h, Finset.sum_insert (fun h => by rw [Finset.mem_Ico] at h; omega), ocell_idx, add_comm]
theorem Orem_end (c : Dev nD) : Orem c 48 = 0 := by unfold Orem; rw [Finset.Ico_self, Finset.sum_empty]
theorem Orem_pos {c : Dev nD} {n : ℕ} {g : GSem nD τ sig} {u : Unit} (h : 0 < Orem c n g u) : ∃ i, n ≤ i ∧ i < 48 ∧ g = ocell c i := by
  unfold Orem at h
  rw [Finset.sum_apply, Finsupp.finset_sum_apply] at h
  obtain ⟨i, hi, h0⟩ := Finset.exists_ne_zero_of_sum_ne_zero (Nat.pos_iff_ne_zero.mp h)
  rw [Finset.mem_Ico] at hi
  refine ⟨i, hi.1, hi.2, ?_⟩
  rw [tallyAt_apply] at h0
  by_contra hne
  exact h0 (if_neg fun h' => hne h'.1)

/-- What device `c` owes at launch: its messages, and a unit to both neighbours' barrier. -/
def O₁ (c : Dev nD) : CellTallies nD τ sig Unit := Orem c 0 + tallyAt (barCell (nxt c)) () 1
def O₀ (c : Dev nD) : CellTallies nD τ sig Unit := O₁ c + tallyAt (barCell (prv c)) () 1

def L (g : GSem nD τ sig) : Finset Unit := if g.1.2 = .tc then {()} else ∅
/-- A message's receiving cell lies above those of all earlier messages, and above the barrier. -/
def lv (g : GSem nD τ sig) (_ : Unit) : ℕ := match g.2 with
  | .reg _ => 1
  | .dma q => if IsMsg q ∧ (dec q).1 = true then 2 + idx (dec q).2.1 (dec q).2.2.1 (dec q).2.2.2 else 0

theorem L_of_ne (g : GSem nD τ sig) (h : g.1.2 ≠ .tc) : L g = ∅ := if_neg h
theorem L_tc (c : Dev nD) (sm : SemLoc sig) : L ((c : Thread nD τ), sm) = {()} := if_pos rfl

theorem lv_send (c : Dev nD) (σ r b) : lv (scell c σ r b) () = 0 := by
  show (if IsMsg (mq _) ∧ (dec (mq _)).1 = true then _ else 0) = 0
  rw [if_neg]; rw [dec_mq]; rintro ⟨-, h⟩; cases h
theorem lv_recv (c : Dev nD) (σ r b) : lv (rcell c σ r b) () = 2 + idx σ r b := by
  show (if IsMsg (mq _) ∧ (dec (mq _)).1 = true then _ else 0) = _
  rw [if_pos ⟨isMsg_mq _, by rw [dec_mq]⟩, dec_mq]
theorem lv_ocell (c : Dev nD) (i : ℕ) (hi : i < 48) (u : Unit) : lv (ocell c i) u = 2 + i := by
  unfold ocell
  rw [lv_recv]
  have h : (decide (i % 2 = 1)).toNat = i % 2 := by rcases Nat.mod_two_eq_zero_or_one i with h | h <;> rw [h] <;> rfl
  unfold idx
  rw [h]
  show 2 + (8 * (i / 8 % 6) + 2 * (i % 8 / 2) + i % 2) = 2 + i
  omega
theorem L_ocell (c : Dev nD) (i : ℕ) (u : Unit) : u ∈ L (ocell c i) := by
  unfold ocell; rw [L_tc]; exact Finset.mem_singleton_self _

/-- A wait at a level under every message still owed. -/
theorem mayWait_of (c : Dev nD) (sm : SemLoc sig) (n : ℕ) (h : lv ((c : Thread nD τ), sm) () < 2 + n) :
    (levAts L lv : sProp 𝕄) ⊢ MayWait (c : Thread nD τ) sm () (Orem c n) :=
  MayOwe.of_cut (L := L) (lev := lv) (lv ((c : Thread nD τ), sm) ()) (fun p hp => by rw [Finset.mem_singleton.mp hp, L_tc]; exact Finset.mem_singleton_self _)
    (fun g u hg => by obtain ⟨i, -, -, rfl⟩ := Orem_pos hg; exact L_ocell c i u)
    (fun p hp => by rw [Finset.mem_singleton.mp hp])
    (fun g u hg => by obtain ⟨i, h1, h2, rfl⟩ := Orem_pos hg; rw [lv_ocell c i h2]; omega)
theorem mayWait_send (c : Dev nD) (σ r b) (n : ℕ) : (levAts L lv : sProp 𝕄) ⊢ MayWait (c : Thread nD τ) (.dma (mq (false, σ, r, b))) () (Orem c n) :=
  mayWait_of c _ n (by rw [lv_send]; omega)
theorem mayWait_recv (c : Dev nD) (σ r b) (n : ℕ) (h : idx σ r b < n) :
    (levAts L lv : sProp 𝕄) ⊢ MayWait (c : Thread nD τ) (.dma (mq (true, σ, r, b))) () (Orem c n) :=
  mayWait_of c _ n (by rw [lv_recv]; omega)
theorem mayWait_bar (c : Dev nD) : (levAts L lv : sProp 𝕄) ⊢ MayWait (c : Thread nD τ) (.reg barS) () (Orem c 0) :=
  mayWait_of c _ 0 (by show 1 < 2 + 0; decide)

theorem O₀_pos {c : Dev nD} {g : GSem nD τ sig} {u : Unit} (h : 0 < O₀ c g u) :
    (∃ i, i < 48 ∧ g = ocell c i) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨i, -, hi, hg⟩ := Orem_pos (c := c) (n := 0) (g := g) (u := u) (by omega)
  exact hn.1 ⟨i, hi, hg⟩

theorem mayWait_stage (c : Dev nD) (q : DmaSem sig) (hq : ¬ IsMsg q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨i, -, rfl⟩ | rfl | rfl
        · exact L_ocell c i u
        · exact Finset.mem_singleton_self _
        · exact Finset.mem_singleton_self _)
      (fun p hp => by rw [Finset.mem_singleton.mp hp]; exact le_of_eq (if_neg fun h => hq h.1))
      (fun g u hg => by
        rcases O₀_pos hg with ⟨i, hi, rfl⟩ | rfl | rfl
        · rw [lv_ocell c i hi]; omega
        · exact Nat.one_pos
        · exact Nat.one_pos)
  · rw [MayWait_zero]; iintro -; iempintro

end Cert.KernelIdeal.Ring

end
-- ==== Proof.Ops.lean ====
module

public import proofs.«01_k».proof.Proof.Proto
public import Idealize.ShloMosaic.Lib.ViewIndex

/-! # One rule for each operation of the body

Each takes the pieces the operation touches and the message it moves along. -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c`, run to a post. -/
abbrev WP {α : Type} (c : Dev nD) (p : P F α) (Q : α → sProp 𝕄) : sProp 𝕄 :=
  wp frame (wpE (defs₀ (F := F)) 𝒱₀ (c : Thread nD τ) none) Set.univ p Q

variable (m : (ℓ : Loc nD τ sig) → Buf (Elt F) ℓ) (ρ : Dev nD → PrngReg)

/-! ## What every device knows throughout -/

abbrev csem : Option Mid → SemLoc sig | none => .reg barS | some x => .dma (mq x)
abbrev kcell (ck : Dev nD × Option Mid) : GSem nD τ sig := ((ck.1 : Thread nD τ), csem ck.2)

def records (K : Dev nD × Option Mid → ℕ) : sProp 𝕄 :=
  iprop((bigSep Finset.univ fun ck : Dev nD × Option Mid => cellInv ER (ringRd m ρ) (K ck) (kcell ck))
    ∗ bigSep Finset.univ fun ck : Dev nD × Option Mid => reached ER (kcell ck) 0)
instance records_persistent (K : Dev nD × Option Mid → ℕ) : BI.Persistent (records m ρ K) := by unfold records; infer_instance

def env (K : Dev nD × Option Mid → ℕ) : sProp 𝕄 := iprop(records m ρ K ∗ levAts L lv)
instance env_persistent (K : Dev nD × Option Mid → ℕ) : BI.Persistent (env m ρ K) := by unfold env; infer_instance

variable {m ρ} {K : Dev nD × Option Mid → ℕ}

theorem env_inv (ck : Dev nD × Option Mid) : env m ρ K ⊢ cellInv ER (ringRd m ρ) (K ck) (kcell ck) := by
  unfold env records
  iintro ⟨⟨H, -⟩, -⟩
  iapply (show (bigSep Finset.univ fun ck : Dev nD × Option Mid => (cellInv ER (ringRd m ρ) (K ck) (kcell ck) : sProp 𝕄)) ⊢ cellInv ER (ringRd m ρ) (K ck) (kcell ck)
    from bigSep_elim (Finset.mem_univ ck)); iexact H
theorem env_reached (ck : Dev nD × Option Mid) : env m ρ K ⊢ reached ER (kcell ck) 0 := by
  unfold env records
  iintro ⟨⟨-, H⟩, -⟩
  iapply (show (bigSep Finset.univ fun ck : Dev nD × Option Mid => (reached ER (kcell ck) 0 : sProp 𝕄)) ⊢ reached ER (kcell ck) 0
    from bigSep_elim (Finset.mem_univ ck)); iexact H
theorem env_lev : env m ρ K ⊢ levAts L lv := by unfold env; iintro ⟨-, H⟩; iexact H

/-- What a device owes after its first `n` messages, whatever it has waited for. -/
def owe (c : Dev nD) (n : ℕ) : sProp 𝕄 := iprop(∃ W, owes (c : Thread nD τ) (Orem c n) W)

/-! ## Loads and stores -/

section Mem
variable {cs : CoreSpace} {s : Shape} {e : EltTy} (c : Dev nD)

theorem wp_ld {α : Type} {Q : α → sProp 𝕄} {M : Memref sig .tc cs s e} {r : Rect s} {hr : ∀ a, r.stride a = 1} {hl : M.view.LoadsAt r.toLoadRect}
    {k : (r.shape.Idx → Elt F e) → P F α} {q : PosShare TreeShare} {X : r.shape.Idx → Elt F e} :
    (owns (c : Thread nD τ) (M.slice r hr) q X : sProp 𝕄)
      ⊢ iprop((owns (c : Thread nD τ) (M.slice r hr) q X -∗ WP c (k X) Q) -∗ WP c (.op (.load M r.toLoadRect hl) k) Q) := by
  unfold owns
  iintro ⟨%f, %hf, H⟩ Hk
  subst hf
  iapply (wp_load_rect 𝒱₀ (c : Thread nD τ) none Set.univ (m := M) (r := r) (subset_refl _)) $$ H
  iintro H
  iapply Hk
  iexists f
  isplitr; · ipureintro; rfl
  iexact H

theorem wp_st {α : Type} {Q : α → sProp 𝕄} {M : Memref sig .tc cs s e} {r : Rect s} {hr : ∀ a, r.stride a = 1} {w : r.shape.Idx → Elt F e}
    {hx : (M.access r).Stores Finset.univ} {hm : Finset.univ = Finset.univ ∨ ∀ a, r.stride a = 1}
    {k : PUnit → P F α} {X : r.shape.Idx → Elt F e} :
    (owns (c : Thread nD τ) (M.slice r hr) fullShare X : sProp 𝕄)
      ⊢ iprop((owns (c : Thread nD τ) (M.slice r hr) fullShare w -∗ WP c (k ⟨⟩) Q) -∗ WP c (.op (.store M r w Finset.univ hx hm) k) Q) := by
  unfold owns
  iintro ⟨%f, -, H⟩ Hk
  iapply (wp_store 𝒱₀ (c : Thread nD τ) none Set.univ (m := M) (r := r) (Mk := Finset.univ) (S := (M.slice r hr).view.set) (f := f) (subset_refl _)) $$ H
  iintro H
  iapply Hk
  iexists _
  isplitr
  swap
  · iexact H
  · ipureintro
    exact View.read_write_univ _ _
end Mem

/-! ## Sends -/

/-- A squeezed piece's elements are the piece's. -/
theorem sq_pts (c : Dev nD) (S : Memref sig .tc .vmem S1x128x2048 .bf16) (f : S.view.ty.Contents (Elt F)) :
    ((S.squeeze S128x2048 squeezes_S1x128x2048_S128x2048).view.loc (c : Thread nD τ) ↦[(S.squeeze S128x2048 squeezes_S1x128x2048_S128x2048).view.set]{fullShare} f : sProp 𝕄)
      = (S.view.loc (c : Thread nD τ) ↦[S.view.set]{fullShare} f) := by
  show (S.view.loc (c : Thread nD τ) ↦[(S.view.reshape S128x2048 squeezes_S1x128x2048_S128x2048.numel_eq).set]{fullShare} f) = _
  rw [View.set_reshape]

section Send
variable (c : Dev nD)

/-- A piece sent: message `σ` goes off, its source goes with it, and with the message goes the slot it lands in and
    the right the sender adds. -/
theorem wp_msg {α : Type} {Q : α → sProp 𝕄} {σ : Fin 6} {r : Bool} {b : Fin 4} {S : Memref sig .tc .vmem S1x128x2048 .bf16}
    {n : Dev nD} (hn : n = dst r c) {sS rS : DmaSem sig} (hsS : sS = mq (false, σ, r, b)) (hrS : rS = mq (true, σ, r, b))
    {hsrc : (S.squeeze S128x2048 squeezes_S1x128x2048_S128x2048).view.WordExact} {hdst : (commV r (slot σ) b).view.WordExact}
    {hsc : (commV r (slot σ) b : Memref sig (Dev.tc n : Thread nD τ).2.kind .vmem S128x2048 .bf16).view.ref.isScScratch = false}
    {hsem : DmaTarget.Typed .vmem (.dma rS) (.remote (Dev.tc n : Thread nD τ) (commV r (slot σ) b : Memref sig (Dev.tc n : Thread nD τ).2.kind .vmem S128x2048 .bf16) (.dma sS) hsc)}
    {k : PUnit → P F α}
    (hpay : (owns (c : Thread nD τ) S fullShare (msgV m ρ σ r b c) : sProp 𝕄) ⊢ sendPay (F := F) c σ r b) :
    iprop(env m ρ K ∗ owns (c : Thread nD τ) S fullShare (msgV m ρ σ r b c) ∗ perm (F := F) c r (slot σ) b ∗ extra (F := F) (dst r c) σ r b
        ∗ owe (F := F) c (idx σ r b) ∗ dutyTok ER (scell c σ r b) 0 false ∗ dutyTok ER (rcell (dst r c) σ r b) 0 false)
      ⊢ iprop(((cred (tallyAt (scell c σ r b) () N) ∗ owe (F := F) c (idx σ r b + 1)) -∗ WP c (k ⟨⟩) Q)
          -∗ WP c (.op (.enqueueDma (S.squeeze S128x2048 squeezes_S1x128x2048_S128x2048) (.remote (Dev.tc n : Thread nD τ) (commV r (slot σ) b) (.dma sS) hsc) (.dma rS) hsrc hdst hsem) k) Q) := by
  subst hn hsS hrS
  unfold perm commAny commP owe owns
  iintro ⟨#He, ⟨%fs, %hfs, Hs⟩, ⟨%X, %fd, -, Hd⟩, Hx, ⟨%W, HO⟩, Ht1, Ht2⟩ Hk
  iapply (Rounds.wp_send_pointsTo_with 𝒱₀ ER (ringRd m ρ) (c : Thread nD τ) none (κ₁ := K (c, some (false, σ, r, b))) (κ₂ := K (dst r c, some (true, σ, r, b)))
    (r₁ := 0) (r₂ := 0) (d₁ := false) (d₂ := false) (fs := fs) (fd := fd) (q := fullShare) (F := extra (F := F) (dst r c) σ r b)
    (by rw [duties_msg]; exact Finset.mem_singleton_self _) (by rw [duties_msg]; exact Finset.mem_singleton_self _)
    () () N ?pN (amount_msg m ρ c _ false) (amount_msg m ρ (dst r c) _ false) (Orem c (idx σ r b + 1)) (Orem_step c σ r b) (W := W)
    ?p1 ?p2) $$ [Hs Hd Hx HO Ht1 Ht2]
  case pN => exact comm_credit r (slot σ) b
  case p1 =>
    rw [payload_send, sq_pts]
    refine BIBase.Entails.trans ?_ hpay
    unfold owns
    iintro H; iexists fs; isplitr ; · ipureintro; exact hfs
    iexact H
  case p2 =>
    rw [payload_recv]
    unfold recvPay commP owns
    rw [src_dst]
    iintro ⟨H, Hx⟩
    isplitl [H]
    · iexists _
      isplitr
      swap
      · iapply (Entails.of_eq (sq_pts _ _ _)); iexact H
      · ipureintro
        funext i
        obtain ⟨j, rfl⟩ := (Shape.reshapeEquiv squeezes_S1x128x2048_S128x2048.numel_eq).surjective i
        rw [← hfs]
        exact View.read_write_reshape _ _ _ _ _
    · iexact Hx
  · isplitr; · iapply (env_inv (c, some (false, σ, r, b))); iexact He
    isplitr; · iapply (env_inv (dst r c, some (true, σ, r, b))); iexact He
    isplitl [Hs]; · iapply (Entails.of_eq (sq_pts _ _ _).symm); iexact Hs
    isplitl [Hd Hx]
    · isplitl [Hd]
      · iapply (Entails.of_eq (sq_pts _ _ _).symm); iexact Hd
      · iexact Hx
    isplitl [HO]; · iexact HO
    isplitl [Ht1]; · iexact Ht1
    isplitr; · iapply (env_reached (c, some (false, σ, r, b))); iexact He
    isplitl [Ht2]; · iexact Ht2
    iapply (env_reached (dst r c, some (true, σ, r, b))); iexact He
  iintro ⟨Hc, HO⟩
  iapply Hk
  isplitl [Hc]; · iexact Hc
  iexists W; iexact HO

end Send

/-! ## Waits -/

section Wait
variable (c : Dev nD)

/-- The wait for a message's source. -/
theorem wp_sent {α : Type} {Q : α → sProp 𝕄} {σ : Fin 6} {r : Bool} {b : Fin 4} {n : ℕ} {S D : Memref sig .tc .vmem S128x2048 .bf16} {sS : DmaSem sig} (hsS : sS = mq (false, σ, r, b))
    {h1 : S.view.WordExact} {h2 : D.view.WordExact} (hN : D.view.dmaCredit = N) {k : PUnit → P F α} :
    iprop(env m ρ K ∗ cred (tallyAt (scell c σ r b) () N) ∗ owe (F := F) c n ∗ atPos ER (scell c σ r b) 0 ∅ 0)
      ⊢ iprop(((owe (F := F) c n ∗ atPos ER (scell c σ r b) 1 ∅ 0 ∗ sendPay (F := F) c σ r b) -∗ WP c (k ⟨⟩) Q)
          -∗ WP c (.op (.waitDma2 sS S D h1 h2) k) Q) := by
  subst hsS
  unfold owe
  iintro ⟨#He, Hc, ⟨%W, HO⟩, Ha⟩ Hk
  iapply (Rounds.wp_wait_rest_token 𝒱₀ ER (ringRd m ρ) (c : Thread nD τ) none (κ := K (c, some (false, σ, r, b)))
      (wpE_waitDma2_eq 𝒱₀ (c : Thread nD τ) none Set.univ) (Set.mem_univ _) () (O := Orem c n) (W := W) (R := 0) (m := 0) (T := ∅)
      (by rw [Nat.zero_add, hN]; exact (expect_msg m ρ c _).symm)) $$ [Hc HO Ha]
  · isplitr; · iapply (env_inv (c, some (false, σ, r, b))); iexact He
    isplitl [Hc]; · rw [hN]; iexact Hc
    isplitl [HO]; · iexact HO
    isplitr; · iapply (mayWait_send c σ r b n); iapply env_lev; iexact He
    iexact Ha
  iintro ⟨HO, Ha, -, Hpay⟩
  ihave Hp := (Entails.of_eq (rest_send m ρ c σ r b)) $$ Hpay
  iapply Hk
  isplitl [HO]; · iexists _; iexact HO
  isplitl [Ha]; · iexact Ha
  iexact Hp

/-- The wait for a message from the ring's device before: every message sent so far has a later place. -/
theorem wp_recvd {α : Type} {Q : α → sProp 𝕄} {σ : Fin 6} {r : Bool} {b : Fin 4} {n : ℕ} (hlt : idx σ r b < n) {S D : Memref sig .tc .vmem S128x2048 .bf16} {sS : DmaSem sig} (hsS : sS = mq (true, σ, r, b))
    {h1 : S.view.WordExact} {h2 : D.view.WordExact} (hN : D.view.dmaCredit = N) {k : PUnit → P F α} :
    iprop(env m ρ K ∗ cred (tallyAt (rcell c σ r b) () N) ∗ owe (F := F) c n ∗ atPos ER (rcell c σ r b) 0 ∅ 0)
      ⊢ iprop(((owe (F := F) c n ∗ atPos ER (rcell c σ r b) 1 ∅ 0 ∗ commP c r (slot σ) b (msgV m ρ σ r b (src r c)) ∗ extra (F := F) c σ r b) -∗ WP c (k ⟨⟩) Q)
          -∗ WP c (.op (.waitDma2 sS S D h1 h2) k) Q) := by
  subst hsS
  unfold owe
  iintro ⟨#He, Hc, ⟨%W, HO⟩, Ha⟩ Hk
  iapply (Rounds.wp_wait_rest_token 𝒱₀ ER (ringRd m ρ) (c : Thread nD τ) none (κ := K (c, some (true, σ, r, b)))
      (wpE_waitDma2_eq 𝒱₀ (c : Thread nD τ) none Set.univ) (Set.mem_univ _) () (O := Orem c n) (W := W) (R := 0) (m := 0) (T := ∅)
      (by rw [Nat.zero_add, hN]; exact (expect_msg m ρ c _).symm)) $$ [Hc HO Ha]
  · isplitr; · iapply (env_inv (c, some (true, σ, r, b))); iexact He
    isplitl [Hc]; · rw [hN]; iexact Hc
    isplitl [HO]; · iexact HO
    isplitr; · iapply (mayWait_recv c σ r b n hlt); iapply env_lev; iexact He
    iexact Ha
  iintro ⟨HO, Ha, -, Hpay⟩
  ihave Hp := (Entails.of_eq (rest_recv m ρ c σ r b)) $$ Hpay
  unfold recvPay
  icases Hp with ⟨Hp, Hx⟩
  iapply Hk
  isplitl [HO]; · iexists _; iexact HO
  isplitl [Ha]; · iexact Ha
  isplitl [Hp] <;> iassumption

end Wait

end Cert.KernelIdeal.Ring

end
-- ==== Proof.StepWp.lean ====
module

public import proofs.«01_k».proof.Proof.Ops

/-! # The steps, each proved once

At a symbolic device, ring and piece: what a step takes and what it leaves. -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A message's state at a device: not yet sent, sent, its counterpart received, and settled -/

def fresh (c : Dev nD) (σ : Fin 6) (r : Bool) (b : Fin 4) : sProp 𝕄 :=
  iprop(dutyTok ER (scell c σ r b) 0 false ∗ dutyTok ER (rcell (dst r c) σ r b) 0 false
    ∗ atPos ER (scell c σ r b) 0 ∅ 0 ∗ atPos ER (rcell c σ r b) 0 ∅ 0 ∗ cred (tallyAt (rcell c σ r b) () N))
def sent (c : Dev nD) (σ : Fin 6) (r : Bool) (b : Fin 4) : sProp 𝕄 :=
  iprop(cred (tallyAt (scell c σ r b) () N) ∗ atPos ER (scell c σ r b) 0 ∅ 0 ∗ atPos ER (rcell c σ r b) 0 ∅ 0 ∗ cred (tallyAt (rcell c σ r b) () N))
def got (c : Dev nD) (σ : Fin 6) (r : Bool) (b : Fin 4) : sProp 𝕄 :=
  iprop(cred (tallyAt (scell c σ r b) () N) ∗ atPos ER (scell c σ r b) 0 ∅ 0 ∗ atPos ER (rcell c σ r b) 1 ∅ 0)
def settled (c : Dev nD) (σ : Fin 6) (r : Bool) (b : Fin 4) : sProp 𝕄 :=
  iprop(atPos ER (scell c σ r b) 1 ∅ 0 ∗ atPos ER (rcell c σ r b) 1 ∅ 0)

variable (m : (ℓ : Loc nD τ sig) → Buf (Elt F) ℓ) (ρ : Dev nD → PrngReg) (K : Dev nD × Option Mid → ℕ)

/-- The two factors' buffers. -/
def xw (c : Dev nD) : sProp 𝕄 :=
  iprop((((c : Thread nD τ).loc cc0_stg0_0) ↦{fullShare} xin m ρ c) ∗ (((c : Thread nD τ).loc cc0_stg1_0) ↦{fullShare} win m ρ c))

theorem wp_done {α : Type} (c : Dev nD) (a : α) (Q : α → sProp 𝕄) : Q a ⊢ WP (F := F) c (.ret a) Q := by
  unfold WP; rw [wp_ret]; iintro H; imodintro; iexact H

theorem extra_none (c : Dev nD) (σ : Fin 6) (r : Bool) (b : Fin 4) (h : freed σ r = none) : iprop(emp) ⊢ extra (F := F) c σ r b := by
  unfold extra; rw [h]; exact .rfl
theorem extra_some (c : Dev nD) (σ : Fin 6) (r : Bool) (b : Fin 4) {k : Fin 3} (h : freed σ r = some k) :
    extra (F := F) c σ r b = perm (F := F) c (!r) k b := by
  unfold extra; rw [h]; rfl

section
variable (c : Dev nD) (r : Bool) (b : Fin 4)

/-- The first step. -/
theorem init_wp :
    iprop(env m ρ K ∗ (fresh (F := F) c 0 r b ∗ outAny (F := F) c (ownB c r b) ∗ stageAny (F := F) c r 0 b ∗ perm (F := F) c r 0 b) ∗ (owe (F := F) c (idx 0 r b) ∗ xw m ρ c))
      ⊢ WP c (initP c b r) (fun _ => iprop((sent (F := F) c 0 r b ∗ outAny (F := F) c (ownB c r b)) ∗ (owe (F := F) c (idx 0 r b + 1) ∗ xw m ρ c))) := by
  unfold initP ldOut stOut ldStage stStage sendStage
  simp only [Prog.lift, Prog.bind_op, Prog.bind_ret, Prog.pure_eq_ret]
  unfold fresh outAny stageAny xw outP stageP
  iintro ⟨#He, ⟨⟨Ht1, Ht2, Ha1, Ha2, Hc⟩, ⟨%X, Ho⟩, ⟨%Y, Hs⟩, Hp⟩, HO, Hx, Hw⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_ld c (M := oM) (r := (ownB c r b).rect)) $$ Ho; iintro Ho
  iapply (wp_st c (M := oM) (r := (ownB c r b).rect)) $$ Ho; iintro Ho
  iapply (wp_ld c (M := stageM r) (r := stageR 0 b)) $$ Hs; iintro Hs
  iapply (wp_st c (M := stageM r) (r := stageR 0 b)) $$ Hs; iintro Hs
  iapply (wp_msg (m := m) (ρ := ρ) (K := K) c (σ := 0) (r := r) (b := b) (S := stageS r 0 b) (tgt_eq c r) (rsSend_eq r 0 b) (rsRecv_eq r 0 b)
    (by unfold sendPay stageAny stageP; iintro H; iexists _; iexact H)) $$ [Hs Hp HO Ht1 Ht2]
  · isplitr; · iexact He
    isplitl [Hs]; · iexact Hs
    isplitl [Hp]; · iexact Hp
    isplitr; · iapply (extra_none (F := F) (dst r c) 0 r b (by cases r <;> rfl)); iempintro
    isplitl [HO]; · iexact HO
    isplitl [Ht1] <;> iassumption
  iintro ⟨Hcs, HO⟩
  iapply wp_done
  unfold sent
  isplitr [HO Hx Hw]
  · isplitr [Ho]
    · isplitl [Hcs]; · iexact Hcs
      isplitl [Ha1]; · iexact Ha1
      isplitl [Ha2] <;> iassumption
    · iexists _; iexact Ho
  · isplitl [HO]; · iexact HO
    isplitl [Hx] <;> iassumption

/-! ## A reduce step -/

/-- A reduce phase's step, at any phase: `g` is what is done with the band and the message. -/
def redP (d : Dev nD) (B : Band) (g : Vec F S128x2048 .f32 → Vec F S1x128x2048 .bf16 → FVec F S128x2048 .f32) (k k' : Fin 2) (σ σ' : Fin 6)
    (S1 R1 S2 R2 : DmaSems sig S_) : P F PUnit := do
  waitCS r k (slot σ) b S1
  waitSC r k (slot σ) b R1
  let o ← ldOut B
  let q ← ldComm r (slot σ) b
  let _ ← ldOut B
  stOut B (g o q)
  let _ ← ldStage r k' b
  stStage r k' b (pMsg (g o q))
  sendStage d r k' (slot σ') b S2 R2

theorem red_wp (B : Band) (g : Vec F S128x2048 .f32 → Vec F S1x128x2048 .bf16 → FVec F S128x2048 .f32) (k k' : Fin 2) (σ σ' : Fin 6)
    {S1 R1 S2 R2 : DmaSems sig S_} (hS1 : S1.sem = mq (false, σ, r, b)) (hR1 : R1.sem = mq (true, σ, r, b))
    (hS2 : S2.sem = mq (false, σ', r, b)) (hR2 : R2.sem = mq (true, σ', r, b)) (V : FVec F S128x2048 .f32)
    (hmsg : msgV m ρ σ' r b c = pMsg (g V (msgV m ρ σ r b (src r c)))) (hlt : idx σ r b < idx σ' r b)
    (hk : sendPay (F := F) c σ r b = stageAny (F := F) c r k b) (hk' : sendPay (F := F) c σ' r b = stageAny (F := F) c r k' b)
    {SP SQ : sProp 𝕄} (hst : iprop(stageAny (F := F) c r k b ∗ SP) ⊢ iprop(stageAny (F := F) c r k' b ∗ SQ)) :
    iprop(env m ρ K ∗ (sent (F := F) c σ r b ∗ fresh (F := F) c σ' r b ∗ SP ∗ perm (F := F) c r (slot σ') b ∗ outP c B V
        ∗ extra (F := F) (dst r c) σ' r b) ∗ owe (F := F) c (idx σ' r b))
      ⊢ WP c (redP r b c B g k k' σ σ' S1 R1 S2 R2) (fun _ => iprop((settled (F := F) c σ r b ∗ sent (F := F) c σ' r b ∗ SQ
          ∗ commAny (F := F) c r (slot σ) b ∗ outP c B (g V (msgV m ρ σ r b (src r c))) ∗ extra (F := F) c σ r b) ∗ owe (F := F) c (idx σ' r b + 1))) := by
  unfold redP waitCS waitSC ldOut stOut ldStage stStage sendStage ldComm
  simp only [Prog.lift, Prog.bind_op, Prog.bind_ret, Prog.pure_eq_ret]
  unfold fresh sent
  iintro ⟨#He, ⟨⟨Hcs, Has, Har, Hcr⟩, ⟨Ht1, Ht2, Ha1, Ha2, Hc⟩, Hst, Hp, Ho, Hx⟩, HO⟩
  iapply (wp_sent (m := m) (ρ := ρ) (K := K) c (σ := σ) (r := r) (b := b) hS1 (stage_credit r k b)) $$ [Hcs HO Has]
  · isplitr; · iexact He
    isplitl [Hcs]; · iexact Hcs
    isplitl [HO] <;> iassumption
  iintro ⟨HO, Has, Hback⟩
  iapply (wp_recvd (m := m) (ρ := ρ) (K := K) c (σ := σ) (r := r) (b := b) hlt hR1 (comm_credit r (slot σ) b)) $$ [Hcr HO Har]
  · isplitr; · iexact He
    isplitl [Hcr]; · iexact Hcr
    isplitl [HO] <;> iassumption
  iintro ⟨HO, Har, Hq, Hx'⟩
  unfold outP commP
  iapply (wp_ld c (M := oM) (r := B.rect)) $$ Ho; iintro Ho
  iapply (wp_ld c (M := commM r) (r := commR (slot σ) b)) $$ Hq; iintro Hq
  iapply (wp_ld c (M := oM) (r := B.rect)) $$ Ho; iintro Ho
  iapply (wp_st c (M := oM) (r := B.rect)) $$ Ho; iintro Ho
  ihave Hst2 := hst $$ [Hback Hst]
  · isplitl [Hback]; · rw [← hk]; iexact Hback
    iexact Hst
  icases Hst2 with ⟨Hst, Hback⟩
  ihave Hst' := (show stageAny (F := F) c r k' b ⊢ iprop(∃ X, owns (c : Thread nD τ) (stageS r k' b) fullShare X) from .rfl) $$ Hst
  icases Hst' with ⟨%Y, Hs⟩
  iapply (wp_ld c (M := stageM r) (r := stageR k' b)) $$ Hs; iintro Hs
  iapply (wp_st c (M := stageM r) (r := stageR k' b)) $$ Hs; iintro Hs
  rw [← hmsg]
  iapply (wp_msg (m := m) (ρ := ρ) (K := K) c (σ := σ') (r := r) (b := b) (S := stageS r k' b) (tgt_eq c r) hS2 hR2
    (by rw [hk']; unfold stageAny stageP; iintro H; iexists _; iexact H)) $$ [Hs Hp HO Hx Ht1 Ht2]
  · isplitr; · iexact He
    isplitl [Hs]; · iexact Hs
    isplitl [Hp]; · iexact Hp
    isplitl [Hx]; · iexact Hx
    isplitl [HO]; · iexact HO
    isplitl [Ht1] <;> iassumption
  iintro ⟨Hcs, HO⟩
  iapply wp_done
  unfold settled
  isplitr [HO]
  · isplitl [Has Har]; · isplitl [Has] <;> iassumption
    isplitl [Hcs Ha1 Ha2 Hc]
    · isplitl [Hcs]; · iexact Hcs
      isplitl [Ha1]; · iexact Ha1
      isplitl [Ha2] <;> iassumption
    isplitl [Hback]; · iexact Hback
    isplitl [Hq]; · unfold commAny commP; iexists _; iexact Hq
    isplitl [Ho]; · iexact Ho
    iexact Hx'
  · iexact HO

/-! ## A gather step -/

def gatP (d : Dev nD) (B : Band) (σ σ' : Fin 6) (R1 S2 R2 : DmaSems sig S_) : P F PUnit := do
  waitCC r (slot σ) (slot σ) b R1
  let q ← ldComm r (slot σ) b
  let _ ← ldOut B
  stOut B (pExt q)
  sendComm d r (slot σ) (slot σ') b S2 R2

theorem gat_wp (B : Band) (σ σ' : Fin 6) {R1 S2 R2 : DmaSems sig S_} (hR1 : R1.sem = mq (true, σ, r, b))
    (hS2 : S2.sem = mq (false, σ', r, b)) (hR2 : R2.sem = mq (true, σ', r, b))
    (hmsg : msgV m ρ σ' r b c = msgV m ρ σ r b (src r c)) (hlt : idx σ r b < idx σ' r b)
    (hk' : sendPay (F := F) c σ' r b = commAny (F := F) c r (slot σ) b) :
    iprop(env m ρ K ∗ (sent (F := F) c σ r b ∗ fresh (F := F) c σ' r b ∗ perm (F := F) c r (slot σ') b ∗ outAny (F := F) c B
        ∗ extra (F := F) (dst r c) σ' r b) ∗ owe (F := F) c (idx σ' r b))
      ⊢ WP c (gatP r b c B σ σ' R1 S2 R2) (fun _ => iprop((got (F := F) c σ r b ∗ sent (F := F) c σ' r b
          ∗ outP c B (pExt (msgV m ρ σ r b (src r c))) ∗ extra (F := F) c σ r b) ∗ owe (F := F) c (idx σ' r b + 1))) := by
  unfold gatP waitCC ldOut stOut ldComm sendComm
  simp only [Prog.lift, Prog.bind_op, Prog.bind_ret, Prog.pure_eq_ret]
  unfold fresh sent outAny
  iintro ⟨#He, ⟨⟨Hcs, Has, Har, Hcr⟩, ⟨Ht1, Ht2, Ha1, Ha2, Hc⟩, Hp, ⟨%X, Ho⟩, Hx⟩, HO⟩
  iapply (wp_recvd (m := m) (ρ := ρ) (K := K) c (σ := σ) (r := r) (b := b) hlt hR1 (comm_credit r (slot σ) b)) $$ [Hcr HO Har]
  · isplitr; · iexact He
    isplitl [Hcr]; · iexact Hcr
    isplitl [HO] <;> iassumption
  iintro ⟨HO, Har, Hq, Hx'⟩
  unfold outP commP
  iapply (wp_ld c (M := commM r) (r := commR (slot σ) b)) $$ Hq; iintro Hq
  iapply (wp_ld c (M := oM) (r := B.rect)) $$ Ho; iintro Ho
  iapply (wp_st c (M := oM) (r := B.rect)) $$ Ho; iintro Ho
  iapply (wp_msg (m := m) (ρ := ρ) (K := K) c (σ := σ') (r := r) (b := b) (S := commS r (slot σ) b) (tgt_eq c r) hS2 hR2
    (by rw [hk']; unfold commAny commP; iintro H; iexists _; iexact H)) $$ [Hq Hp HO Hx Ht1 Ht2]
  · isplitr; · iexact He
    isplitl [Hq]; · rw [hmsg]; iexact Hq
    isplitl [Hp]; · iexact Hp
    isplitl [Hx]; · iexact Hx
    isplitl [HO]; · iexact HO
    isplitl [Ht1] <;> iassumption
  iintro ⟨Hcs', HO⟩
  iapply wp_done
  unfold got
  isplitr [HO]
  · isplitl [Hcs Has Har]
    · isplitl [Hcs]; · iexact Hcs
      isplitl [Has] <;> iassumption
    isplitl [Hcs' Ha1 Ha2 Hc]
    · isplitl [Hcs']; · iexact Hcs'
      isplitl [Ha1]; · iexact Ha1
      isplitl [Ha2] <;> iassumption
    isplitl [Ho] <;> iassumption
  · iexact HO

/-- The last gather step. -/
theorem gatLast_wp :
    iprop(env m ρ K ∗ (sent (F := F) c 5 r b ∗ outAny (F := F) c (agB c 2 b r)) ∗ owe (F := F) c 48)
      ⊢ WP c (agLastP c b r) (fun _ => iprop((got (F := F) c 5 r b ∗ commAny (F := F) c r 2 b
          ∗ outP c (agB c 2 b r) (pExt (msgV m ρ 5 r b (src r c)))) ∗ owe (F := F) c 48)) := by
  unfold agLastP waitCC ldOut stOut ldComm
  simp only [Prog.lift, Prog.bind_op, Prog.bind_ret, Prog.pure_eq_ret]
  unfold sent outAny
  iintro ⟨#He, ⟨⟨Hcs, Has, Har, Hcr⟩, ⟨%X, Ho⟩⟩, HO⟩
  iapply (wp_recvd (m := m) (ρ := ρ) (K := K) c (σ := 5) (r := r) (b := b) (idx_lt 5 r b) (agRecv_eq r 2 b) (comm_credit r 2 b)) $$ [Hcr HO Har]
  · isplitr; · iexact He
    isplitl [Hcr]; · iexact Hcr
    isplitl [HO] <;> iassumption
  simp only [show slot 5 = 2 from rfl]
  iintro ⟨HO, Har, Hq, -⟩
  unfold outP commP
  iapply (wp_ld c (M := commM r) (r := commR 2 b)) $$ Hq; iintro Hq
  iapply (wp_ld c (M := oM) (r := (agB c 2 b r).rect)) $$ Ho; iintro Ho
  iapply (wp_st c (M := oM) (r := (agB c 2 b r).rect)) $$ Ho; iintro Ho
  iapply wp_done
  unfold got
  isplitr [HO]
  · isplitl [Hcs Has Har]
    · isplitl [Hcs]; · iexact Hcs
      isplitl [Has] <;> iassumption
    isplitl [Hq]; · unfold commAny commP; iexists _; iexact Hq
    iexact Ho
  · iexact HO

/-- A closing wait. -/
theorem end_wp (σ : Fin 6) {S D : Memref sig .tc .vmem S128x2048 .bf16} {S1 : DmaSems sig S_} (hS1 : S1.sem = mq (false, σ, r, b))
    {h1 : S.view.WordExact} {h2 : D.view.WordExact} (hN : D.view.dmaCredit = N) (n : ℕ) :
    iprop(env m ρ K ∗ got (F := F) c σ r b ∗ owe (F := F) c n)
      ⊢ WP c (Prog.lift (.waitDma2 S1.sem S D h1 h2) : P F PUnit) (fun _ => iprop((settled (F := F) c σ r b ∗ sendPay (F := F) c σ r b) ∗ owe (F := F) c n)) := by
  simp only [Prog.lift]
  unfold got
  iintro ⟨#He, ⟨Hcs, Has, Har⟩, HO⟩
  iapply (wp_sent (m := m) (ρ := ρ) (K := K) c (σ := σ) (r := r) (b := b) hS1 hN) $$ [Hcs HO Has]
  · isplitr; · iexact He
    isplitl [Hcs]; · iexact Hcs
    isplitl [HO] <;> iassumption
  iintro ⟨HO, Has, Hback⟩
  iapply wp_done
  unfold settled
  isplitr [HO]
  · isplitr [Hback]; · isplitl [Has] <;> iassumption
    iexact Hback
  · iexact HO

end

end Cert.KernelIdeal.Ring

end
-- ==== Proof.Lanes.lean ====
module

public import proofs.«01_k».proof.Proof.StepWp

/-! # Phases

What a ring's piece holds between the phases, each phase at one piece, and a phase at all pieces. -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Using a step -/

theorem wp_use {c : Dev nD} {E A R Q1 R1 : sProp 𝕄} {p : P F PUnit} {Q : PUnit → sProp 𝕄}
    (h : iprop(E ∗ A ∗ R) ⊢ WP c p (fun _ => iprop(Q1 ∗ R1))) :
    iprop(E ∗ A ∗ R) ⊢ iprop(((Q1 ∗ R1) -∗ Q ⟨⟩) -∗ WP c p Q) := by
  refine BI.wand_intro ?_
  refine (BI.sep_mono h (BI.Entails.refl _)).trans ?_
  refine BI.Entails.trans ?_ (wp_wand_r _ _ _ (Q := fun _ => iprop(Q1 ∗ R1)))
  refine BI.sep_mono (BI.Entails.refl _) ?_
  show iprop((Q1 ∗ R1) -∗ Q ⟨⟩) ⊢ iprop(∀ a : PUnit, (Q1 ∗ R1) -∗ Q a)
  iintro H; iintro %a; iexact H

/-- Two steps in a row. -/
theorem wp_two {c : Dev nD} {E P1 P2 R0 R1 R2 Q1 Q2 Pre Post Fr Fr' : sProp 𝕄} {f g : P F PUnit} [BI.Persistent E]
    (h1 : iprop(E ∗ P1 ∗ R0) ⊢ WP c f (fun _ => iprop(Q1 ∗ R1))) (h2 : iprop(E ∗ P2 ∗ R1) ⊢ WP c g (fun _ => iprop(Q2 ∗ R2)))
    (e1 : Pre ⊢ iprop(P1 ∗ Fr)) (e2 : iprop(Q1 ∗ Fr) ⊢ iprop(P2 ∗ Fr')) (e3 : iprop(Q2 ∗ Fr') ⊢ Post) :
    iprop(E ∗ Pre ∗ R0) ⊢ WP c f (fun _ => WP c g (fun _ => iprop(Post ∗ R2))) := by
  iintro ⟨#HE, HP, HR⟩
  ihave HP' := e1 $$ HP
  icases HP' with ⟨HP, HF⟩
  iapply (wp_use h1) $$ [HP HR]
  · iframe
    iexact HE
  iintro ⟨HQ, HR⟩
  ihave H := e2 $$ [HQ HF]
  · iframe
  icases H with ⟨HP, HF⟩
  iapply (wp_use h2) $$ [HP HR]
  · iframe
    iexact HE
  iintro ⟨HQ, HR⟩
  isplitr [HR]
  · iapply e3; iframe
  · iexact HR

/-- A phase at every piece. -/
theorem lanes_wp {c : Dev nD} {E : sProp 𝕄} [BI.Persistent E] {f : Fin 4 → Bool → P F PUnit} {Pre Post : Fin 4 → sProp 𝕄} {R : ℕ → sProp 𝕄}
    (h : ∀ b, iprop(E ∗ Pre b ∗ R b.val) ⊢ WP c (f b false) (fun _ => WP c (f b true) (fun _ => iprop(Post b ∗ R (b.val + 1))))) :
    iprop(E ∗ bigSep Finset.univ Pre ∗ R 0) ⊢ WP c (lanes f) (fun _ => iprop(bigSep Finset.univ Post ∗ R 4)) := by
  have hs (Φ : Fin 4 → sProp 𝕄) : bigSep Finset.univ Φ = iprop(Φ 0 ∗ Φ 1 ∗ Φ 2 ∗ Φ 3) := by
    rw [bigSep_univ_eq_bigSepL [0, 1, 2, 3] (by decide) (by decide), bigSepL_cons_cons, bigSepL_cons_cons, bigSepL_cons_cons, bigSepL_singleton]; rfl
  have step (b : Fin 4) (Q : PUnit → sProp 𝕄) : iprop(E ∗ Pre b ∗ R b.val) ⊢ iprop(((Post b ∗ R (b.val + 1)) -∗ Q ⟨⟩) -∗ WP c (f b false) (fun _ => WP c (f b true) Q)) := by
    have h' : iprop(E ∗ Pre b ∗ R b.val) ⊢ WP c (f b false >>= fun _ => f b true) (fun _ => iprop(Post b ∗ R (b.val + 1))) := by
      unfold WP; rw [wp_bind]; exact h b
    have := wp_use (Q := Q) h'
    unfold WP at this ⊢
    rw [wp_bind] at this
    exact this
  have s0 (Q : PUnit → sProp 𝕄) : iprop(E ∗ Pre 0 ∗ R 0) ⊢ iprop(((Post 0 ∗ R 1) -∗ Q ⟨⟩) -∗ WP c (f 0 false) (fun _ => WP c (f 0 true) Q)) := step 0 Q
  have s1 (Q : PUnit → sProp 𝕄) : iprop(E ∗ Pre 1 ∗ R 1) ⊢ iprop(((Post 1 ∗ R 2) -∗ Q ⟨⟩) -∗ WP c (f 1 false) (fun _ => WP c (f 1 true) Q)) := step 1 Q
  have s2 (Q : PUnit → sProp 𝕄) : iprop(E ∗ Pre 2 ∗ R 2) ⊢ iprop(((Post 2 ∗ R 3) -∗ Q ⟨⟩) -∗ WP c (f 2 false) (fun _ => WP c (f 2 true) Q)) := step 2 Q
  have s3 (Q : PUnit → sProp 𝕄) : iprop(E ∗ Pre 3 ∗ R 3) ⊢ iprop(((Post 3 ∗ R 4) -∗ Q ⟨⟩) -∗ WP c (f 3 false) (fun _ => WP c (f 3 true) Q)) := step 3 Q
  rw [hs, hs]
  unfold lanes WP
  simp only [wp_bind]
  iintro ⟨#HE, ⟨H0, H1, H2, H3⟩, HR⟩
  iapply (s0 _) $$ [H0 HR]
  · isplitr; · iexact HE
    isplitl [H0] <;> iassumption
  iintro ⟨H0, HR⟩
  iapply (s1 _) $$ [H1 HR]
  · isplitr; · iexact HE
    isplitl [H1] <;> iassumption
  iintro ⟨H1, HR⟩
  iapply (s2 _) $$ [H2 HR]
  · isplitr; · iexact HE
    isplitl [H2] <;> iassumption
  iintro ⟨H2, HR⟩
  iapply (s3 _) $$ [H3 HR]
  · isplitr; · iexact HE
    isplitl [H3] <;> iassumption
  iintro ⟨H3, HR⟩
  isplitr [HR]
  · iframe
  · iexact HR

end Cert.KernelIdeal.Ring

end
-- ==== Proof.Phases.lean ====
module

public import proofs.«01_k».proof.Proof.Lanes

/-! # The phases of the run

What one ring holds for one piece between the phases, and each phase at one piece. -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chunks of the two kinds of phases -/

theorem agK_own (r : Bool) (c : Dev nD) : agK r 0 c = c := by revert r c; decide +kernel
theorem rs0_ag1 (r : Bool) (c : Dev nD) : rsK r 0 c = agK r 1 c := by revert r c; decide +kernel
theorem rs1_ag2 (r : Bool) (c : Dev nD) : rsK r 1 c = agK r 2 c := by revert r c; decide +kernel
theorem own_ag0 (c : Dev nD) (r : Bool) (b : Fin 4) : ownB c r b = agB c 0 b r := by rw [ownB_eq, agB_eq, agK_own]
theorem rs_ag1 (c : Dev nD) (r : Bool) (b : Fin 4) : rsB c 0 b r = agB c 1 b r := by rw [rsB_eq, agB_eq, rs0_ag1]
theorem rs_ag2 (c : Dev nD) (r : Bool) (b : Fin 4) : rsB c 1 b r = agB c 2 b r := by rw [rsB_eq, agB_eq, rs1_ag2]

theorem idx_true (σ : Fin 6) (b : Fin 4) : idx σ true b = idx σ false b + 1 := by revert σ b; decide

variable (m : (ℓ : Loc nD τ sig) → Buf (Elt F) ℓ) (ρ : Dev nD → PrngReg) (K : Dev nD × Option Mid → ℕ)

section
variable (c : Dev nD) (r : Bool) (b : Fin 4)

/-! ## What one ring holds for one piece -/

/-- The bands of the chunks to be reduced. -/
def bands : sProp 𝕄 := iprop(outP c (rsB c 0 b r) (bandV m ρ (jRS r 0) r b c) ∗ outP c (rsB c 1 b r) (bandV m ρ (jRS r 1) r b c) ∗ outP c (rsB c 2 b r) (bandV m ρ (jRS r 2) r b c))

def A0 : sProp 𝕄 := iprop((fresh (F := F) c 0 r b ∗ fresh (F := F) c 1 r b ∗ fresh (F := F) c 2 r b ∗ fresh (F := F) c 3 r b ∗ fresh (F := F) c 4 r b ∗ fresh (F := F) c 5 r b)
  ∗ outAny (F := F) c (ownB c r b) ∗ (stageAny (F := F) c r 0 b ∗ stageAny (F := F) c r 1 b) ∗ permB (F := F) c r b)
def A1 : sProp 𝕄 := iprop(sent (F := F) c 0 r b ∗ (fresh (F := F) c 1 r b ∗ fresh (F := F) c 2 r b ∗ fresh (F := F) c 3 r b ∗ fresh (F := F) c 4 r b ∗ fresh (F := F) c 5 r b)
  ∗ outAny (F := F) c (ownB c r b) ∗ stageAny (F := F) c r 1 b ∗ perm (F := F) c r 1 b ∗ perm (F := F) c r 2 b)
def A2 : sProp 𝕄 := iprop(settled (F := F) c 0 r b ∗ sent (F := F) c 1 r b ∗ (fresh (F := F) c 2 r b ∗ fresh (F := F) c 3 r b ∗ fresh (F := F) c 4 r b ∗ fresh (F := F) c 5 r b)
  ∗ outAny (F := F) c (ownB c r b) ∗ stageAny (F := F) c r 0 b ∗ perm (F := F) c r 2 b ∗ outAny (F := F) c (rsB c 0 b r)
  ∗ outP c (rsB c 1 b r) (bandV m ρ (jRS r 1) r b c) ∗ outP c (rsB c 2 b r) (bandV m ρ (jRS r 2) r b c))
def A3 : sProp 𝕄 := iprop((settled (F := F) c 0 r b ∗ settled (F := F) c 1 r b) ∗ sent (F := F) c 2 r b ∗ (fresh (F := F) c 3 r b ∗ fresh (F := F) c 4 r b ∗ fresh (F := F) c 5 r b)
  ∗ outAny (F := F) c (ownB c r b) ∗ stageAny (F := F) c r 1 b ∗ outAny (F := F) c (rsB c 0 b r) ∗ outAny (F := F) c (rsB c 1 b r)
  ∗ outP c (rsB c 2 b r) (bandV m ρ (jRS r 2) r b c))
def set3 : sProp 𝕄 := iprop(settled (F := F) c 0 r b ∗ settled (F := F) c 1 r b ∗ settled (F := F) c 2 r b)
/-- The finished piece, which stays. -/
def kept : sProp 𝕄 := iprop(set3 (F := F) c r b ∗ stageAny (F := F) c r 1 b ∗ outP c (rsB c 2 b r) (fin m ρ r b c))
def A4 : sProp 𝕄 := iprop(kept m ρ c r b ∗ sent (F := F) c 3 r b ∗ (fresh (F := F) c 4 r b ∗ fresh (F := F) c 5 r b)
  ∗ outAny (F := F) c (agB c 0 b r) ∗ outAny (F := F) c (agB c 1 b r) ∗ outAny (F := F) c (agB c 2 b r))
/-- A gathered piece. -/
def gath (σ : Fin 6) (t : Fin 3) : sProp 𝕄 := outP c (agB c t b r) (pExt (msgV m ρ σ r b (src r c)))
def A5 : sProp 𝕄 := iprop(kept m ρ c r b ∗ got (F := F) c 3 r b ∗ sent (F := F) c 4 r b ∗ fresh (F := F) c 5 r b
  ∗ gath m ρ c r b 3 0 ∗ outAny (F := F) c (agB c 1 b r) ∗ outAny (F := F) c (agB c 2 b r))
def A6 : sProp 𝕄 := iprop(kept m ρ c r b ∗ got (F := F) c 3 r b ∗ got (F := F) c 4 r b ∗ sent (F := F) c 5 r b
  ∗ gath m ρ c r b 3 0 ∗ gath m ρ c r b 4 1 ∗ outAny (F := F) c (agB c 2 b r))
/-- The output's pieces at the end. -/
def outF : sProp 𝕄 := iprop(outP c (rsB c 2 b r) (fin m ρ r b c) ∗ gath m ρ c r b 3 0 ∗ gath m ρ c r b 4 1 ∗ gath m ρ c r b 5 2)
def A7 : sProp 𝕄 := iprop(outF m ρ c r b ∗ set3 (F := F) c r b ∗ stageAny (F := F) c r 1 b ∗ commAny (F := F) c r 2 b
  ∗ got (F := F) c 3 r b ∗ got (F := F) c 4 r b ∗ got (F := F) c 5 r b)
def A8 : sProp 𝕄 := iprop(outF m ρ c r b ∗ set3 (F := F) c r b ∗ stageAny (F := F) c r 1 b ∗ commAny (F := F) c r 2 b
  ∗ (settled (F := F) c 3 r b ∗ stageAny (F := F) c r 0 b) ∗ got (F := F) c 4 r b ∗ got (F := F) c 5 r b)
def A9 : sProp 𝕄 := iprop(outF m ρ c r b ∗ set3 (F := F) c r b ∗ stageAny (F := F) c r 1 b ∗ commAny (F := F) c r 2 b
  ∗ (settled (F := F) c 3 r b ∗ stageAny (F := F) c r 0 b) ∗ (settled (F := F) c 4 r b ∗ commAny (F := F) c r 0 b) ∗ got (F := F) c 5 r b)
def A10 : sProp 𝕄 := iprop(outF m ρ c r b ∗ set3 (F := F) c r b ∗ stageAny (F := F) c r 1 b ∗ commAny (F := F) c r 2 b
  ∗ (settled (F := F) c 3 r b ∗ stageAny (F := F) c r 0 b) ∗ (settled (F := F) c 4 r b ∗ commAny (F := F) c r 0 b) ∗ (settled (F := F) c 5 r b ∗ commAny (F := F) c r 1 b))

/-! ## One ring's step in each phase -/

/-- A step with a frame around it. -/
theorem wp_around {E P1 Pre Post R0 R1 Q1 Fr : sProp 𝕄} {f : P F PUnit}
    (h1 : iprop(E ∗ P1 ∗ R0) ⊢ WP c f (fun _ => iprop(Q1 ∗ R1)))
    (e1 : Pre ⊢ iprop(P1 ∗ Fr)) (e2 : iprop(Q1 ∗ Fr) ⊢ Post) :
    iprop(E ∗ Pre ∗ R0) ⊢ WP c f (fun _ => iprop(Post ∗ R1)) := by
  iintro ⟨HE, HP, HR⟩
  ihave HP' := e1 $$ HP
  icases HP' with ⟨HP, HF⟩
  iapply (wp_use h1) $$ [HE HP HR]
  · iframe
  iintro ⟨HQ, HR⟩
  isplitr [HR]
  · iapply e2; iframe
  · iexact HR

theorem ph_init : iprop(env m ρ K ∗ A0 (F := F) c r b ∗ owe (F := F) c (idx 0 r b) ∗ xw m ρ c) ⊢ WP c (initP c b r) (fun _ => iprop(A1 (F := F) c r b ∗ owe (F := F) c (idx 0 r b + 1) ∗ xw m ρ c)) := by
  refine wp_around (c := c) (init_wp m ρ K c r b) (Fr := iprop((fresh (F := F) c 1 r b ∗ fresh (F := F) c 2 r b ∗ fresh (F := F) c 3 r b ∗ fresh (F := F) c 4 r b ∗ fresh (F := F) c 5 r b)
    ∗ stageAny (F := F) c r 1 b ∗ perm (F := F) c r 1 b ∗ perm (F := F) c r 2 b)) ?_ ?_
  · unfold A0 permB
    iintro ⟨⟨H0, H1, H2, H3, H4, H5⟩, Ho, ⟨Hs, Hs'⟩, Hp0, Hp1, Hp2⟩
    iframe
  · unfold A1
    iintro ⟨⟨H0, Ho⟩, ⟨H1, H2, H3, H4, H5⟩, Hs, Hp1, Hp2⟩
    iframe

theorem idx_next (σ : Fin 6) (r : Bool) (b : Fin 4) (h : σ.val < 5) : idx σ r b < idx ⟨σ.val + 1, by omega⟩ r b := by unfold idx; simp only; omega

theorem ph_rs0 : iprop(env m ρ K ∗ ((A1 (F := F) c r b ∗ bands m ρ c r b) ∗ extra (F := F) (dst r c) 1 r b) ∗ owe (F := F) c (idx 1 r b))
    ⊢ WP c (rsP c 0 1 1 b r) (fun _ => iprop((A2 m ρ c r b ∗ commAny (F := F) c r 0 b) ∗ owe (F := F) c (idx 1 r b + 1))) := by
  refine wp_around (c := c) (red_wp m ρ K c r b (rsB c 0 b r) pAdd 0 1 0 1 (rsSend_eq r 0 b) (rsRecv_eq r 0 b) (rsSend_eq r 1 b) (rsRecv_eq r 1 b)
    (bandV m ρ (jRS r 0) r b c) rfl (idx_next 0 r b (by decide)) rfl rfl (SP := stageAny (F := F) c r 1 b) (SQ := stageAny (F := F) c r 0 b) BI.sep_comm)
    (Fr := iprop((fresh (F := F) c 2 r b ∗ fresh (F := F) c 3 r b ∗ fresh (F := F) c 4 r b ∗ fresh (F := F) c 5 r b)
    ∗ outAny (F := F) c (ownB c r b) ∗ perm (F := F) c r 2 b ∗ outP c (rsB c 1 b r) (bandV m ρ (jRS r 1) r b c) ∗ outP c (rsB c 2 b r) (bandV m ρ (jRS r 2) r b c))) ?_ ?_
  · unfold A1 bands
    iintro ⟨⟨⟨Hs, ⟨H1, H2, H3, H4, H5⟩, Ho, Hst, Hp1, Hp2⟩, Hb0, Hb1, Hb2⟩, Hx⟩
    simp only [show slot 1 = 1 from rfl]
    iframe
  · unfold A2
    iintro ⟨⟨Hd, Hs, Hst, Hc, Hb, -⟩, ⟨H2, H3, H4, H5⟩, Ho, Hp, Hb1, Hb2⟩
    simp only [show slot 0 = 0 from rfl]
    iframe
    unfold outAny; iexists _; iexact Hb

theorem ph_rs1 : iprop(env m ρ K ∗ (A2 m ρ c r b ∗ extra (F := F) (dst r c) 2 r b) ∗ owe (F := F) c (idx 2 r b))
    ⊢ WP c (rsP c 1 0 2 b r) (fun _ => iprop((A3 m ρ c r b ∗ commAny (F := F) c r 1 b ∗ extra (F := F) c 1 r b) ∗ owe (F := F) c (idx 2 r b + 1))) := by
  refine wp_around (c := c) (red_wp m ρ K c r b (rsB c 1 b r) pAdd 1 0 1 2 (rsSend_eq r 1 b) (rsRecv_eq r 1 b) (rsSend_eq r 2 b) (rsRecv_eq r 2 b)
    (bandV m ρ (jRS r 1) r b c) rfl (idx_next 1 r b (by decide)) rfl rfl (SP := stageAny (F := F) c r 0 b) (SQ := stageAny (F := F) c r 1 b) BI.sep_comm)
    (Fr := iprop(settled (F := F) c 0 r b ∗ (fresh (F := F) c 3 r b ∗ fresh (F := F) c 4 r b ∗ fresh (F := F) c 5 r b)
    ∗ outAny (F := F) c (ownB c r b) ∗ outAny (F := F) c (rsB c 0 b r) ∗ outP c (rsB c 2 b r) (bandV m ρ (jRS r 2) r b c))) ?_ ?_
  · unfold A2
    iintro ⟨⟨Hd0, Hs, ⟨H2, H3, H4, H5⟩, Ho, Hst, Hp2, Ho0, Hb1, Hb2⟩, Hx⟩
    simp only [show slot 2 = 2 from rfl]
    iframe
  · unfold A3
    iintro ⟨⟨Hd, Hs, Hst, Hc, Hb, Hx⟩, Hd0, ⟨H3, H4, H5⟩, Ho, Ho0, Hb2⟩
    simp only [show slot 1 = 1 from rfl]
    iframe
    unfold outAny; iexists _; iexact Hb

theorem ph_rs2 : iprop(env m ρ K ∗ (A3 m ρ c r b ∗ perm (F := F) c r 0 b ∗ extra (F := F) (dst r c) 3 r b) ∗ owe (F := F) c (idx 3 r b))
    ⊢ WP c (rsLastP (scl m ρ c) c b r) (fun _ => iprop((A4 m ρ c r b ∗ commAny (F := F) c r 2 b ∗ extra (F := F) c 2 r b) ∗ owe (F := F) c (idx 3 r b + 1))) := by
  refine wp_around (c := c) (red_wp m ρ K c r b (rsB c 2 b r) (pFin (scl m ρ c)) 0 0 2 3 (rsSend_eq r 2 b) (rsRecv_eq r 2 b) (agSend_eq r 0 b) (agRecv_eq r 0 b)
    (bandV m ρ (jRS r 2) r b c) rfl (idx_next 2 r b (by decide)) rfl rfl (SP := stageAny (F := F) c r 1 b) (SQ := stageAny (F := F) c r 1 b) (BI.Entails.refl _))
    (Fr := iprop((settled (F := F) c 0 r b ∗ settled (F := F) c 1 r b) ∗ (fresh (F := F) c 4 r b ∗ fresh (F := F) c 5 r b)
    ∗ outAny (F := F) c (ownB c r b) ∗ outAny (F := F) c (rsB c 0 b r) ∗ outAny (F := F) c (rsB c 1 b r))) ?_ ?_
  · unfold A3
    iintro ⟨⟨⟨Hd0, Hd1⟩, Hs, ⟨H3, H4, H5⟩, Ho, Hst, Ho0, Ho1, Hb2⟩, Hp, Hx⟩
    simp only [show slot 3 = 0 from rfl]
    iframe
  · unfold A4
    iintro ⟨⟨Hd, Hs, Hst, Hc, Hb, Hx⟩, ⟨Hd0, Hd1⟩, ⟨H4, H5⟩, Ho, Ho0, Ho1⟩
    simp only [show slot 2 = 2 from rfl]
    rw [own_ag0, rs_ag1, rs_ag2]
    unfold kept set3
    iframe
    iexact Hb

theorem ph_ag0 : iprop(env m ρ K ∗ (A4 m ρ c r b ∗ perm (F := F) c r 1 b ∗ extra (F := F) (dst r c) 4 r b) ∗ owe (F := F) c (idx 4 r b))
    ⊢ WP c (agP c 0 1 b r) (fun _ => iprop((A5 m ρ c r b ∗ extra (F := F) c 3 r b) ∗ owe (F := F) c (idx 4 r b + 1))) := by
  refine wp_around (c := c) (gat_wp m ρ K c r b (agB c 0 b r) 3 4 (agRecv_eq r 0 b) (agSend_eq r 1 b) (agRecv_eq r 1 b) rfl (idx_next 3 r b (by decide)) rfl)
    (Fr := iprop(kept m ρ c r b ∗ fresh (F := F) c 5 r b ∗ outAny (F := F) c (agB c 1 b r) ∗ outAny (F := F) c (agB c 2 b r))) ?_ ?_
  · unfold A4
    iintro ⟨⟨Hk, Hs, ⟨H4, H5⟩, Ho, Ho0, Ho1⟩, Hp, Hx⟩
    simp only [show slot 4 = 1 from rfl]
    iframe
  · unfold A5 gath
    iintro ⟨⟨Hg, Hs, Ho, Hx⟩, Hk, H5, Ho0, Ho1⟩
    iframe

theorem ph_ag1 : iprop(env m ρ K ∗ (A5 m ρ c r b ∗ perm (F := F) c r 2 b ∗ extra (F := F) (dst r c) 5 r b) ∗ owe (F := F) c (idx 5 r b))
    ⊢ WP c (agP c 1 2 b r) (fun _ => iprop((A6 m ρ c r b ∗ extra (F := F) c 4 r b) ∗ owe (F := F) c (idx 5 r b + 1))) := by
  refine wp_around (c := c) (gat_wp m ρ K c r b (agB c 1 b r) 4 5 (agRecv_eq r 1 b) (agSend_eq r 2 b) (agRecv_eq r 2 b) rfl (idx_next 4 r b (by decide)) rfl)
    (Fr := iprop(kept m ρ c r b ∗ got (F := F) c 3 r b ∗ gath m ρ c r b 3 0 ∗ outAny (F := F) c (agB c 2 b r))) ?_ ?_
  · unfold A5
    iintro ⟨⟨Hk, Hg3, Hs, H5, Hg, Ho0, Ho1⟩, Hp, Hx⟩
    simp only [show slot 5 = 2 from rfl]
    iframe
  · unfold A6 gath
    iintro ⟨⟨Hg, Hs, Ho, Hx⟩, Hk, Hg3, Hg0, Ho1⟩
    iframe

theorem ph_ag2 : iprop(env m ρ K ∗ A6 m ρ c r b ∗ owe (F := F) c 48)
    ⊢ WP c (agLastP c b r) (fun _ => iprop(A7 m ρ c r b ∗ owe (F := F) c 48)) := by
  refine wp_around (c := c) (gatLast_wp m ρ K c r b)
    (Fr := iprop(kept m ρ c r b ∗ got (F := F) c 3 r b ∗ got (F := F) c 4 r b ∗ gath m ρ c r b 3 0 ∗ gath m ρ c r b 4 1)) ?_ ?_
  · unfold A6
    iintro ⟨Hk, Hg3, Hg4, Hs, Hg, Hg', Ho⟩
    iframe
  · unfold A7 kept outF gath
    iintro ⟨⟨Hg, Hc, Ho⟩, ⟨Hk1, Hk2, Hk3⟩, Hg3, Hg4, Hg0, Hg1⟩
    iframe

theorem ph_end0 (n : ℕ) : iprop(env m ρ K ∗ A7 m ρ c r b ∗ owe (F := F) c n)
    ⊢ WP c (endP0 b r) (fun _ => iprop(A8 m ρ c r b ∗ owe (F := F) c n)) := by
  unfold endP0 waitCS
  refine wp_around (c := c) (end_wp m ρ K c r b 3 (agSend_eq r 0 b) (stage_credit r 0 b) n)
    (Fr := iprop(outF m ρ c r b ∗ set3 (F := F) c r b ∗ stageAny (F := F) c r 1 b ∗ commAny (F := F) c r 2 b ∗ got (F := F) c 4 r b ∗ got (F := F) c 5 r b)) ?_ ?_
  · unfold A7
    iintro ⟨H1, H2, H3, H4, H5, H6, H7⟩
    iframe
  · unfold A8; rw [show sendPay (F := F) c 3 r b = stageAny (F := F) c r 0 b from rfl]
    iintro ⟨⟨H1, H2⟩, H3, H4, H5, H6, H7, H8⟩
    iframe

theorem ph_end1 (n : ℕ) : iprop(env m ρ K ∗ A8 m ρ c r b ∗ owe (F := F) c n)
    ⊢ WP c (endP 1 0 b r) (fun _ => iprop(A9 m ρ c r b ∗ owe (F := F) c n)) := by
  unfold endP waitCC
  refine wp_around (c := c) (end_wp m ρ K c r b 4 (agSend_eq r 1 b) (comm_credit r _ b) n)
    (Fr := iprop(outF m ρ c r b ∗ set3 (F := F) c r b ∗ stageAny (F := F) c r 1 b ∗ commAny (F := F) c r 2 b
      ∗ (settled (F := F) c 3 r b ∗ stageAny (F := F) c r 0 b) ∗ got (F := F) c 5 r b)) ?_ ?_
  · unfold A8
    iintro ⟨H1, H2, H3, H4, H5, H6, H7⟩
    iframe
  · unfold A9; rw [show sendPay (F := F) c 4 r b = commAny (F := F) c r 0 b from rfl]
    iintro ⟨⟨H1, H2⟩, H3, H4, H5, H6, ⟨H7, H8⟩, H9⟩
    iframe

theorem ph_end2 (n : ℕ) : iprop(env m ρ K ∗ A9 m ρ c r b ∗ owe (F := F) c n)
    ⊢ WP c (endP 2 1 b r) (fun _ => iprop(A10 m ρ c r b ∗ owe (F := F) c n)) := by
  unfold endP waitCC
  refine wp_around (c := c) (end_wp m ρ K c r b 5 (agSend_eq r 2 b) (comm_credit r _ b) n)
    (Fr := iprop(outF m ρ c r b ∗ set3 (F := F) c r b ∗ stageAny (F := F) c r 1 b ∗ commAny (F := F) c r 2 b
      ∗ (settled (F := F) c 3 r b ∗ stageAny (F := F) c r 0 b) ∗ (settled (F := F) c 4 r b ∗ commAny (F := F) c r 0 b))) ?_ ?_
  · unfold A9
    iintro ⟨H1, H2, H3, H4, H5, H6, H7⟩
    iframe
  · unfold A10; rw [show sendPay (F := F) c 5 r b = commAny (F := F) c r 1 b from rfl]
    iintro ⟨⟨H1, H2⟩, H3, H4, H5, H6, ⟨H7, H8⟩, H9, H10⟩
    iframe

end

/-! ## Each phase at one piece, both rings -/

theorem extra_dst (c : Dev nD) (σ : Fin 6) (r : Bool) (b : Fin 4) {k : Fin 3} (h : freed σ r = some k) :
    extra (F := F) (dst r c) σ r b = commAny (F := F) c (!r) k b := by
  rw [extra_some _ _ _ _ h]; unfold perm; rw [dst_not_dst]
theorem extra_emp (c : Dev nD) (σ : Fin 6) (r : Bool) (b : Fin 4) (h : freed σ r = none) : extra (F := F) c σ r b = iprop(emp) := by
  unfold extra; rw [h]; rfl

section
variable (c : Dev nD) (b : Fin 4)

/-- Both rings. -/
abbrev both (Φ : Bool → sProp 𝕄) : sProp 𝕄 := iprop(Φ false ∗ Φ true)

def S0 : sProp 𝕄 := both fun r => A0 (F := F) c r b
def S1 : sProp 𝕄 := both fun r => A1 (F := F) c r b
def S1' : sProp 𝕄 := both fun r => iprop(A1 (F := F) c r b ∗ bands m ρ c r b)
def S2 : sProp 𝕄 := iprop(both (fun r => A2 m ρ c r b) ∗ commAny (F := F) c true 0 b)
def S3 : sProp 𝕄 := iprop(both (fun r => A3 m ρ c r b) ∗ perm (F := F) c false 0 b ∗ commAny (F := F) c true 1 b)
def S4 : sProp 𝕄 := iprop(both (fun r => A4 m ρ c r b) ∗ perm (F := F) c false 1 b ∗ commAny (F := F) c true 2 b)
def S5 : sProp 𝕄 := iprop(both (fun r => A5 m ρ c r b) ∗ perm (F := F) c false 2 b)
def S6 : sProp 𝕄 := both fun r => A6 m ρ c r b
def S7 : sProp 𝕄 := both fun r => A7 m ρ c r b
def S8 : sProp 𝕄 := both fun r => A8 m ρ c r b
def S9 : sProp 𝕄 := both fun r => A9 m ρ c r b
def S10 : sProp 𝕄 := both fun r => A10 m ρ c r b

/-- A phase whose rings do not meet. -/
theorem both_wp {E R0 R1 R2 : sProp 𝕄} {f : Fin 4 → Bool → P F PUnit} {Φ Ψ : Bool → sProp 𝕄} [BI.Persistent E]
    (h1 : iprop(E ∗ Φ false ∗ R0) ⊢ WP c (f b false) (fun _ => iprop(Ψ false ∗ R1)))
    (h2 : iprop(E ∗ Φ true ∗ R1) ⊢ WP c (f b true) (fun _ => iprop(Ψ true ∗ R2))) :
    iprop(E ∗ both Φ ∗ R0) ⊢ WP c (f b false) (fun _ => WP c (f b true) (fun _ => iprop(both Ψ ∗ R2))) :=
  wp_two (c := c) h1 h2 (BI.Entails.refl _) BI.sep_comm BI.sep_comm

theorem ln_init : iprop(env m ρ K ∗ S0 (F := F) c b ∗ owe (F := F) c (idx 0 false b) ∗ xw m ρ c)
    ⊢ WP c (initP c b false) (fun _ => WP c (initP c b true) (fun _ => iprop(S1 (F := F) c b ∗ owe (F := F) c (idx 0 true b + 1) ∗ xw m ρ c))) := by
  have h := ph_init m ρ K c true b
  rw [idx_true] at h ⊢
  exact both_wp c b (f := initP c) (Φ := fun r => A0 (F := F) c r b) (Ψ := fun r => A1 (F := F) c r b) (ph_init m ρ K c false b) h

theorem ln_rs0 : iprop(env m ρ K ∗ S1' m ρ c b ∗ owe (F := F) c (idx 1 false b))
    ⊢ WP c (rsP c 0 1 1 b false) (fun _ => WP c (rsP c 0 1 1 b true) (fun _ => iprop(S2 m ρ c b ∗ owe (F := F) c (idx 1 true b + 1)))) := by
  have h := ph_rs0 m ρ K c true b
  rw [idx_true] at h ⊢
  refine wp_two (c := c) (ph_rs0 m ρ K c false b) h (Fr := iprop(A1 (F := F) c true b ∗ bands m ρ c true b)) (Fr' := A2 m ρ c false b) ?_ ?_ ?_
  · unfold S1'; rw [extra_emp (dst false c) 1 false b rfl]
    iintro ⟨⟨H1, H2⟩, H3, H4⟩; iframe
  · rw [extra_dst c 1 true b rfl]; (show _ ⊢ iprop(((A1 (F := F) c true b ∗ bands m ρ c true b) ∗ commAny (F := F) c false 0 b) ∗ A2 m ρ c false b))
    iintro ⟨⟨H1, H2⟩, H3, H4⟩; iframe
  · unfold S2 both
    iintro ⟨⟨H1, H2⟩, H3⟩; iframe

theorem ln_rs1 : iprop(env m ρ K ∗ S2 m ρ c b ∗ owe (F := F) c (idx 2 false b))
    ⊢ WP c (rsP c 1 0 2 b false) (fun _ => WP c (rsP c 1 0 2 b true) (fun _ => iprop(S3 m ρ c b ∗ owe (F := F) c (idx 2 true b + 1)))) := by
  have h := ph_rs1 m ρ K c true b
  rw [idx_true] at h ⊢
  refine wp_two (c := c) (ph_rs1 m ρ K c false b) h (Fr := A2 m ρ c true b) (Fr' := A3 m ρ c false b) ?_ ?_ ?_
  · unfold S2 both; rw [extra_dst c 2 false b rfl]; (show _ ⊢ iprop((A2 m ρ c false b ∗ commAny (F := F) c true 0 b) ∗ A2 m ρ c true b))
    iintro ⟨⟨H1, H2⟩, H3⟩; iframe
  · rw [extra_dst c 2 true b rfl]; (show _ ⊢ iprop((A2 m ρ c true b ∗ commAny (F := F) c false 1 b) ∗ A3 m ρ c false b))
    iintro ⟨⟨H1, H2, -⟩, H3⟩; iframe
  · unfold S3 both; rw [extra_some c 1 true b rfl]; (show iprop((A3 m ρ c true b ∗ commAny (F := F) c true 1 b ∗ perm (F := F) c false 0 b) ∗ _) ⊢ _)
    iintro ⟨⟨H1, H2, H3⟩, H4⟩; iframe

theorem ln_rs2 : iprop(env m ρ K ∗ S3 m ρ c b ∗ owe (F := F) c (idx 3 false b))
    ⊢ WP c (rsLastP (scl m ρ c) c b false) (fun _ => WP c (rsLastP (scl m ρ c) c b true) (fun _ => iprop(S4 m ρ c b ∗ owe (F := F) c (idx 3 true b + 1)))) := by
  have h := ph_rs2 m ρ K c true b
  rw [idx_true] at h ⊢
  refine wp_two (c := c) (ph_rs2 m ρ K c false b) h (Fr := A3 m ρ c true b) (Fr' := A4 m ρ c false b) ?_ ?_ ?_
  · unfold S3 both; rw [extra_dst c 3 false b rfl]; (show _ ⊢ iprop((A3 m ρ c false b ∗ perm (F := F) c false 0 b ∗ commAny (F := F) c true 1 b) ∗ A3 m ρ c true b))
    iintro ⟨⟨H1, H2⟩, H3, H4⟩; iframe
  · rw [extra_dst c 3 true b rfl, extra_some c 2 false b rfl]
    (show iprop((A4 m ρ c false b ∗ commAny (F := F) c false 2 b ∗ perm (F := F) c true 0 b) ∗ _) ⊢ iprop((A3 m ρ c true b ∗ perm (F := F) c true 0 b ∗ commAny (F := F) c false 2 b) ∗ A4 m ρ c false b))
    iintro ⟨⟨H1, H2, H3⟩, H4⟩; iframe
  · unfold S4 both; rw [extra_some c 2 true b rfl]; (show iprop((A4 m ρ c true b ∗ commAny (F := F) c true 2 b ∗ perm (F := F) c false 1 b) ∗ _) ⊢ _)
    iintro ⟨⟨H1, H2, H3⟩, H4⟩; iframe

theorem ln_ag0 : iprop(env m ρ K ∗ S4 m ρ c b ∗ owe (F := F) c (idx 4 false b))
    ⊢ WP c (agP c 0 1 b false) (fun _ => WP c (agP c 0 1 b true) (fun _ => iprop(S5 m ρ c b ∗ owe (F := F) c (idx 4 true b + 1)))) := by
  have h := ph_ag0 m ρ K c true b
  rw [idx_true] at h ⊢
  refine wp_two (c := c) (ph_ag0 m ρ K c false b) h (Fr := A4 m ρ c true b) (Fr' := A5 m ρ c false b) ?_ ?_ ?_
  · unfold S4 both; rw [extra_dst c 4 false b rfl]; (show _ ⊢ iprop((A4 m ρ c false b ∗ perm (F := F) c false 1 b ∗ commAny (F := F) c true 2 b) ∗ A4 m ρ c true b))
    iintro ⟨⟨H1, H2⟩, H3, H4⟩; iframe
  · rw [extra_emp (dst true c) 4 true b rfl, extra_some c 3 false b rfl]
    (show iprop((A5 m ρ c false b ∗ perm (F := F) c true 1 b) ∗ _) ⊢ _)
    iintro ⟨⟨H1, H2⟩, H3⟩; iframe
  · unfold S5 both; rw [extra_some c 3 true b rfl]; (show iprop((A5 m ρ c true b ∗ perm (F := F) c false 2 b) ∗ _) ⊢ _)
    iintro ⟨⟨H1, H2⟩, H3⟩; iframe

theorem ln_ag1 : iprop(env m ρ K ∗ S5 m ρ c b ∗ owe (F := F) c (idx 5 false b))
    ⊢ WP c (agP c 1 2 b false) (fun _ => WP c (agP c 1 2 b true) (fun _ => iprop(S6 m ρ c b ∗ owe (F := F) c (idx 5 true b + 1)))) := by
  have h := ph_ag1 m ρ K c true b
  rw [idx_true] at h ⊢
  refine wp_two (c := c) (ph_ag1 m ρ K c false b) h (Fr := A5 m ρ c true b) (Fr' := A6 m ρ c false b) ?_ ?_ ?_
  · unfold S5 both; rw [extra_emp (dst false c) 5 false b rfl]
    iintro ⟨⟨H1, H2⟩, H3⟩; iframe
  · rw [extra_emp (dst true c) 5 true b rfl, extra_some c 4 false b rfl]
    (show iprop((A6 m ρ c false b ∗ perm (F := F) c true 2 b) ∗ _) ⊢ _)
    iintro ⟨⟨H1, H2⟩, H3⟩; iframe
  · unfold S6 both
    iintro ⟨⟨H1, -⟩, H3⟩; iframe

theorem ln_ag2 : iprop(env m ρ K ∗ S6 m ρ c b ∗ owe (F := F) c 48)
    ⊢ WP c (agLastP c b false) (fun _ => WP c (agLastP c b true) (fun _ => iprop(S7 m ρ c b ∗ owe (F := F) c 48))) :=
  both_wp c b (f := agLastP c) (Φ := fun r => A6 m ρ c r b) (Ψ := fun r => A7 m ρ c r b) (ph_ag2 m ρ K c false b) (ph_ag2 m ρ K c true b)
theorem ln_end0 : iprop(env m ρ K ∗ S7 m ρ c b ∗ owe (F := F) c 48)
    ⊢ WP c (endP0 b false) (fun _ => WP c (endP0 b true) (fun _ => iprop(S8 m ρ c b ∗ owe (F := F) c 48))) :=
  both_wp c b (f := endP0) (Φ := fun r => A7 m ρ c r b) (Ψ := fun r => A8 m ρ c r b) (ph_end0 m ρ K c false b 48) (ph_end0 m ρ K c true b 48)
theorem ln_end1 : iprop(env m ρ K ∗ S8 m ρ c b ∗ owe (F := F) c 48)
    ⊢ WP c (endP 1 0 b false) (fun _ => WP c (endP 1 0 b true) (fun _ => iprop(S9 m ρ c b ∗ owe (F := F) c 48))) :=
  both_wp c b (f := endP 1 0) (Φ := fun r => A8 m ρ c r b) (Ψ := fun r => A9 m ρ c r b) (ph_end1 m ρ K c false b 48) (ph_end1 m ρ K c true b 48)
theorem ln_end2 : iprop(env m ρ K ∗ S9 m ρ c b ∗ owe (F := F) c 48)
    ⊢ WP c (endP 2 1 b false) (fun _ => WP c (endP 2 1 b true) (fun _ => iprop(S10 m ρ c b ∗ owe (F := F) c 48))) :=
  both_wp c b (f := endP 2 1) (Φ := fun r => A9 m ρ c r b) (Ψ := fun r => A10 m ρ c r b) (ph_end2 m ρ K c false b 48) (ph_end2 m ρ K c true b 48)

end

end Cert.KernelIdeal.Ring

end
-- ==== Proof.Bands.lean ====
module

public import proofs.«01_k».proof.Proof.Phases
public import Idealize.ShloMosaic.Lib.MemrefSat

/-! # Buffers taken apart and put together

The output by chunks of rows and by pieces; a receive or staging buffer by slots and pieces. -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The families of rectangles -/

theorem chunk_inb (k : Fin 4) : ∀ a, (![1024 * k.val, 0] : Fin 2 → ℕ) a + S1024x2048.size a ≤ S4096x2048.size a := by
  revert k; decide +kernel
/-- A chunk of the output's rows. -/
abbrev chunkR (k : Fin 4) : Rect S4096x2048 := Rect.unit (s := S4096x2048) ![1024 * k.val, 0] S1024x2048.size (chunk_inb k)

theorem chunkR_disj (k k' : Fin 4) (h : k ≠ k') : Disjoint (chunkR k).set (chunkR k').set :=
  Rect.unit_disjoint (s := S4096x2048) (0 : Fin 2) (by
    have : k.val ≠ k'.val := fun e => h (Fin.ext e)
    show 1024 * k.val + 1024 ≤ 1024 * k'.val ∨ 1024 * k'.val + 1024 ≤ 1024 * k.val; omega)
theorem chunkR_cover : (Finset.univ : Finset (Fin 4)).biUnion (fun k => (chunkR k).set) = Finset.univ := by
  ext i; simp only [Finset.mem_biUnion, Finset.mem_univ, true_and, iff_true]
  have h0 : (i (0 : Fin 2)).val < 4096 := (i (0 : Fin 2)).isLt
  have h1 : (i (1 : Fin 2)).val < 2048 := (i (1 : Fin 2)).isLt
  refine ⟨⟨(i (0 : Fin 2)).val / 1024, by omega⟩, Rect.mem_set_unit.mpr (Fin.forall_fin_two.mpr ⟨?_, ?_⟩)⟩
  · show 1024 * ((i (0 : Fin 2)).val / 1024) ≤ _ ∧ _ < 1024 * ((i (0 : Fin 2)).val / 1024) + 1024; omega
  · show 0 ≤ _ ∧ _ < 0 + 2048; omega

theorem subR_disj (p p' : Bool × Fin 4) (h : p ≠ p') : Disjoint (subR p.1 p.2).set (subR p'.1 p'.2).set :=
  Rect.unit_disjoint (s := S1024x2048) (0 : Fin 2) (by
    show 512 * p.1.toNat + 128 * p.2.val + 128 ≤ 512 * p'.1.toNat + 128 * p'.2.val ∨ 512 * p'.1.toNat + 128 * p'.2.val + 128 ≤ 512 * p.1.toNat + 128 * p.2.val
    revert p p' h; decide +kernel)
theorem subR_cover : (Finset.univ : Finset (Bool × Fin 4)).biUnion (fun p => (subR p.1 p.2).set) = Finset.univ := by
  ext i; simp only [Finset.mem_biUnion, Finset.mem_univ, true_and, iff_true]
  have h0 : (i (0 : Fin 2)).val < 1024 := (i (0 : Fin 2)).isLt
  have h1 : (i (1 : Fin 2)).val < 2048 := (i (1 : Fin 2)).isLt
  have hb : (decide (512 ≤ (i (0 : Fin 2)).val)).toNat = (i (0 : Fin 2)).val / 512 := by
    by_cases h : 512 ≤ (i (0 : Fin 2)).val
    · rw [decide_eq_true h]; show 1 = _; omega
    · rw [decide_eq_false h]; show 0 = _; omega
  refine ⟨(decide (512 ≤ (i (0 : Fin 2)).val), ⟨(i (0 : Fin 2)).val % 512 / 128, by omega⟩), Rect.mem_set_unit.mpr (Fin.forall_fin_two.mpr ⟨?_, ?_⟩)⟩
  · show 512 * (decide (512 ≤ (i (0 : Fin 2)).val)).toNat + 128 * ((i (0 : Fin 2)).val % 512 / 128) ≤ _ ∧ _ < 512 * (decide (512 ≤ (i (0 : Fin 2)).val)).toNat + 128 * ((i (0 : Fin 2)).val % 512 / 128) + 128
    rw [hb]; omega
  · show 0 ≤ _ ∧ _ < 0 + 2048; omega

abbrev absR (p : Fin 4 × Bool × Fin 4) : Rect S4096x2048 := (absB p.1 p.2.1 p.2.2).rect
theorem absR_disj (p p' : Fin 4 × Bool × Fin 4) (h : p ≠ p') : Disjoint (absR p).set (absR p').set :=
  Rect.unit_disjoint (s := S4096x2048) (0 : Fin 2) (by
    show 1024 * p.1.val + 512 * p.2.1.toNat + 128 * p.2.2.val + 128 ≤ 1024 * p'.1.val + 512 * p'.2.1.toNat + 128 * p'.2.2.val
      ∨ 1024 * p'.1.val + 512 * p'.2.1.toNat + 128 * p'.2.2.val + 128 ≤ 1024 * p.1.val + 512 * p.2.1.toNat + 128 * p.2.2.val
    revert p p' h; decide +kernel)
theorem absR_cover : (Finset.univ : Finset (Fin 4 × Bool × Fin 4)).biUnion (fun p => (absR p).set) = Finset.univ := by
  ext i; simp only [Finset.mem_biUnion, Finset.mem_univ, true_and, iff_true]
  have h0 : (i (0 : Fin 2)).val < 4096 := (i (0 : Fin 2)).isLt
  have h1 : (i (1 : Fin 2)).val < 2048 := (i (1 : Fin 2)).isLt
  have hb : (decide (512 ≤ (i (0 : Fin 2)).val % 1024)).toNat = (i (0 : Fin 2)).val % 1024 / 512 := by
    by_cases h : 512 ≤ (i (0 : Fin 2)).val % 1024
    · rw [decide_eq_true h]; show 1 = _; omega
    · rw [decide_eq_false h]; show 0 = _; omega
  refine ⟨(⟨(i (0 : Fin 2)).val / 1024, by omega⟩, decide (512 ≤ (i (0 : Fin 2)).val % 1024), ⟨(i (0 : Fin 2)).val % 512 / 128, by omega⟩),
    Rect.mem_set_unit.mpr (Fin.forall_fin_two.mpr ⟨?_, ?_⟩)⟩
  · show 1024 * ((i (0 : Fin 2)).val / 1024) + 512 * (decide (512 ≤ (i (0 : Fin 2)).val % 1024)).toNat + 128 * ((i (0 : Fin 2)).val % 512 / 128) ≤ _
      ∧ _ < 1024 * ((i (0 : Fin 2)).val / 1024) + 512 * (decide (512 ≤ (i (0 : Fin 2)).val % 1024)).toNat + 128 * ((i (0 : Fin 2)).val % 512 / 128) + 128
    rw [hb]; omega
  · show 0 ≤ _ ∧ _ < 0 + 2048; omega

theorem commR_disj (p p' : Fin 3 × Fin 4) (h : p ≠ p') : Disjoint (commR p.1 p.2).set (commR p'.1 p'.2).set := by
  by_cases h1 : p.1 = p'.1
  · refine Rect.unit_disjoint (s := S3x512x2048) (1 : Fin 3) ?_
    have : p.2.val ≠ p'.2.val := fun e => h (Prod.ext h1 (Fin.ext e))
    show 128 * p.2.val + 128 ≤ 128 * p'.2.val ∨ 128 * p'.2.val + 128 ≤ 128 * p.2.val; omega
  · refine Rect.unit_disjoint (s := S3x512x2048) (0 : Fin 3) ?_
    have : p.1.val ≠ p'.1.val := fun e => h1 (Fin.ext e)
    show p.1.val + 1 ≤ p'.1.val ∨ p'.1.val + 1 ≤ p.1.val; omega
theorem commR_cover : (Finset.univ : Finset (Fin 3 × Fin 4)).biUnion (fun p => (commR p.1 p.2).set) = Finset.univ := by
  ext i; simp only [Finset.mem_biUnion, Finset.mem_univ, true_and, iff_true]
  have h0 : (i (0 : Fin 3)).val < 3 := (i (0 : Fin 3)).isLt
  have h1 : (i (1 : Fin 3)).val < 512 := (i (1 : Fin 3)).isLt
  have h2 : (i (2 : Fin 3)).val < 2048 := (i (2 : Fin 3)).isLt
  refine ⟨(⟨(i (0 : Fin 3)).val, h0⟩, ⟨(i (1 : Fin 3)).val / 128, by omega⟩), Rect.mem_set_unit.mpr (Fin.forall_fin_succ.mpr ⟨?_, Fin.forall_fin_two.mpr ⟨?_, ?_⟩⟩)⟩
  · show (i (0 : Fin 3)).val ≤ _ ∧ _ < (i (0 : Fin 3)).val + 1; omega
  · show 128 * ((i (1 : Fin 3)).val / 128) ≤ (i (1 : Fin 3)).val ∧ (i (1 : Fin 3)).val < 128 * ((i (1 : Fin 3)).val / 128) + 128; omega
  · show 0 ≤ (i (2 : Fin 3)).val ∧ (i (2 : Fin 3)).val < 0 + 2048; omega

theorem stageR_disj (p p' : Fin 2 × Fin 4) (h : p ≠ p') : Disjoint (stageR p.1 p.2).set (stageR p'.1 p'.2).set := by
  by_cases h1 : p.1 = p'.1
  · refine Rect.unit_disjoint (s := S2x512x2048) (1 : Fin 3) ?_
    have : p.2.val ≠ p'.2.val := fun e => h (Prod.ext h1 (Fin.ext e))
    show 128 * p.2.val + 128 ≤ 128 * p'.2.val ∨ 128 * p'.2.val + 128 ≤ 128 * p.2.val; omega
  · refine Rect.unit_disjoint (s := S2x512x2048) (0 : Fin 3) ?_
    have : p.1.val ≠ p'.1.val := fun e => h1 (Fin.ext e)
    show p.1.val + 1 ≤ p'.1.val ∨ p'.1.val + 1 ≤ p.1.val; omega
theorem stageR_cover : (Finset.univ : Finset (Fin 2 × Fin 4)).biUnion (fun p => (stageR p.1 p.2).set) = Finset.univ := by
  ext i; simp only [Finset.mem_biUnion, Finset.mem_univ, true_and, iff_true]
  have h0 : (i (0 : Fin 3)).val < 2 := (i (0 : Fin 3)).isLt
  have h1 : (i (1 : Fin 3)).val < 512 := (i (1 : Fin 3)).isLt
  have h2 : (i (2 : Fin 3)).val < 2048 := (i (2 : Fin 3)).isLt
  refine ⟨(⟨(i (0 : Fin 3)).val, h0⟩, ⟨(i (1 : Fin 3)).val / 128, by omega⟩), Rect.mem_set_unit.mpr (Fin.forall_fin_succ.mpr ⟨?_, Fin.forall_fin_two.mpr ⟨?_, ?_⟩⟩)⟩
  · show (i (0 : Fin 3)).val ≤ _ ∧ _ < (i (0 : Fin 3)).val + 1; omega
  · show 128 * ((i (1 : Fin 3)).val / 128) ≤ (i (1 : Fin 3)).val ∧ (i (1 : Fin 3)).val < 128 * ((i (1 : Fin 3)).val / 128) + 128; omega
  · show 0 ≤ (i (2 : Fin 3)).val ∧ (i (2 : Fin 3)).val < 0 + 2048; omega

/-! ## Buffers by slots and pieces -/

/-- Pieces each owned at some contents are the buffer owned at some contents, and back. -/
theorem any_rects {T : Type} [Fintype T] [DecidableEq T] (c : Thread nD τ) {sp : Space} {sh : Shape} {e : EltTy} (M : Memref sig c.2.kind sp sh e)
    (r : T → Rect sh) (hr : ∀ t a, (r t).stride a = 1) (hd : ∀ t t', t ≠ t' → Disjoint (r t).set (r t').set)
    (hcov : (Finset.univ : Finset T).biUnion (fun t => (r t).set) = Finset.univ) :
    (iprop(∃ X, owns c M fullShare X) : sProp 𝕄) ⊢ bigSep Finset.univ fun t => iprop(∃ X, owns c (M.slice (r t) (hr t)) fullShare X) := by
  iintro ⟨%X, H⟩
  iapply (show (owns c M fullShare X : sProp 𝕄) ⊢ bigSep Finset.univ fun t => iprop(∃ X, owns c (M.slice (r t) (hr t)) fullShare X) from
    (owns_rects c M fullShare r hr hd hcov X).trans (bigSep_mono fun t _ => (show owns c (M.slice (r t) (hr t)) fullShare (fun j => X ((r t).emb j)) ⊢ iprop(∃ X, owns c (M.slice (r t) (hr t)) fullShare X) from by iintro H; iexists _; iexact H)))
  iexact H
theorem any_of_rects {T : Type} [Fintype T] [DecidableEq T] (c : Thread nD τ) {sp : Space} {sh : Shape} {e : EltTy} (M : Memref sig c.2.kind sp sh e)
    (r : T → Rect sh) (hr : ∀ t a, (r t).stride a = 1) (hd : ∀ t t', t ≠ t' → Disjoint (r t).set (r t').set)
    (hcov : (Finset.univ : Finset T).biUnion (fun t => (r t).set) = Finset.univ) :
    (bigSep Finset.univ fun t => iprop(∃ X, owns c (M.slice (r t) (hr t)) fullShare X)) ⊢ (iprop(∃ X, owns c M fullShare X) : sProp 𝕄) := by
  refine (bigSep_exists_pi Finset.univ (fun t X => owns c (M.slice (r t) (hr t)) fullShare X)).trans ?_
  iintro ⟨%Xs, H⟩
  iexists (Rect.glue r hcov Xs)
  have hg (t : T) : (fun j => Rect.glue r hcov Xs ((r t).emb j)) = Xs t := funext fun y => Rect.glue_emb r hcov hd Xs t y
  iapply (owns_of_rects c M fullShare r hr hd hcov (Rect.glue r hcov Xs))
  simp only [hg]
  iexact H

section
variable (c : Dev nD)

theorem comm_split (r : Bool) : (iprop(∃ X, owns (c : Thread nD τ) (commM r) fullShare X) : sProp 𝕄) ⊢ bigSep Finset.univ fun p : Fin 3 × Fin 4 => commAny (F := F) c r p.1 p.2 :=
  any_rects (c : Thread nD τ) (commM r) (fun p : Fin 3 × Fin 4 => commR p.1 p.2) (fun _ _ => rfl) commR_disj commR_cover
theorem comm_join (r : Bool) : (bigSep Finset.univ fun p : Fin 3 × Fin 4 => commAny (F := F) c r p.1 p.2) ⊢ (iprop(∃ X, owns (c : Thread nD τ) (commM r) fullShare X) : sProp 𝕄) :=
  any_of_rects (c : Thread nD τ) (commM r) (fun p : Fin 3 × Fin 4 => commR p.1 p.2) (fun _ _ => rfl) commR_disj commR_cover
theorem stage_split (r : Bool) : (iprop(∃ X, owns (c : Thread nD τ) (stageM r) fullShare X) : sProp 𝕄) ⊢ bigSep Finset.univ fun p : Fin 2 × Fin 4 => stageAny (F := F) c r p.1 p.2 :=
  any_rects (c : Thread nD τ) (stageM r) (fun p : Fin 2 × Fin 4 => stageR p.1 p.2) (fun _ _ => rfl) stageR_disj stageR_cover
theorem stage_join (r : Bool) : (bigSep Finset.univ fun p : Fin 2 × Fin 4 => stageAny (F := F) c r p.1 p.2) ⊢ (iprop(∃ X, owns (c : Thread nD τ) (stageM r) fullShare X) : sProp 𝕄) :=
  any_of_rects (c : Thread nD τ) (stageM r) (fun p : Fin 2 × Fin 4 => stageR p.1 p.2) (fun _ _ => rfl) stageR_disj stageR_cover

/-! ## The output -/

/-- A chunk of the output. -/
def chP (k : Fin 4) (X : FVec F S1024x2048 .f32) : sProp 𝕄 := owns (c : Thread nD τ) (oM.slice (chunkR k) (fun _ => rfl)) fullShare X

theorem out_chunks : (iprop(∃ X, owns (c : Thread nD τ) oM fullShare X) : sProp 𝕄) ⊢ bigSep Finset.univ fun k : Fin 4 => iprop(∃ X, chP (F := F) c k X) :=
  any_rects (c : Thread nD τ) oM chunkR (fun _ _ => rfl) chunkR_disj chunkR_cover

theorem sub_emb (k : Fin 4) (r : Bool) (b : Fin 4) (i : S128x2048.Idx) :
    (chunkR k).emb ((subR r b).emb i) = (absB k r b).rect.emb i := by
  funext a
  apply Fin.ext
  revert a
  refine Fin.forall_fin_two.mpr ⟨?_, ?_⟩
  · show 1024 * k.val + 1 * (512 * r.toNat + 128 * b.val + 1 * (i (0 : Fin 2)).val) = 1024 * k.val + 512 * r.toNat + 128 * b.val + 1 * (i (0 : Fin 2)).val
    omega
  · show 0 + 1 * (0 + 1 * (i (1 : Fin 2)).val) = 0 + 1 * (i (1 : Fin 2)).val
    omega

/-- A piece of a chunk is the output's piece. -/
theorem chunk_sub (k : Fin 4) (r : Bool) (b : Fin 4) (X : FVec F S128x2048 .f32) :
    (owns (c : Thread nD τ) ((oM.slice (chunkR k) (fun _ => rfl)).slice (subR r b) (fun _ => rfl)) fullShare X : sProp 𝕄) = outP c (absB k r b) X := by
  have he : ((oM.slice (chunkR k) (fun _ => rfl)).slice (subR r b) (fun _ => rfl)).view.emb = (bandM (absB k r b)).view.emb := by
    refine DFunLike.ext _ _ fun i => ?_
    exact congrArg (fun z => oM.view.emb z) (sub_emb k r b i)
  unfold outP owns
  have hs : ((oM.slice (chunkR k) (fun _ => rfl)).slice (subR r b) (fun _ => rfl)).view.set = (bandM (absB k r b)).view.set := by
    unfold View.set; rw [he]
  have hr (f : (bandM (absB k r b)).view.ty.Contents (Elt F)) : ((oM.slice (chunkR k) (fun _ => rfl)).slice (subR r b) (fun _ => rfl)).view.read (Elt F) f = (bandM (absB k r b)).view.read (Elt F) f := by
    funext i
    exact congrArg (fun z => oM.view.read (Elt F) f z) (sub_emb k r b i)
  show iprop(∃ f : (bandM (absB k r b)).view.ty.Contents (Elt F), ⌜((oM.slice (chunkR k) (fun _ => rfl)).slice (subR r b) (fun _ => rfl)).view.read (Elt F) f = X⌝
    ∗ (((bandM (absB k r b)).view.loc (c : Thread nD τ)) ↦[((oM.slice (chunkR k) (fun _ => rfl)).slice (subR r b) (fun _ => rfl)).view.set]{fullShare} f)) = _
  rw [hs]
  simp only [hr]

theorem chunk_split (k : Fin 4) (X : FVec F S1024x2048 .f32) :
    chP c k X ⊢ bigSep Finset.univ fun p : Bool × Fin 4 => outP c (absB k p.1 p.2) (fun i => X ((subR p.1 p.2).emb i)) := by
  refine (owns_rects (Val := Elt F) (c : Thread nD τ) (oM.slice (chunkR k) (fun _ => rfl)) fullShare (fun p : Bool × Fin 4 => subR p.1 p.2) (fun _ _ => rfl) subR_disj subR_cover X).trans ?_
  exact Entails.of_eq (bigSep_congr fun p _ => chunk_sub c k p.1 p.2 _)

end

/-! ## The order a device meets the chunks in -/

/-- After its own: the three it computes. -/
def chE (c : Dev nD) : Option (Fin 3) ≃ Fin 4 :=
  Equiv.ofBijective (fun | none => c | some j => chK c j) (by revert c; decide +kernel)
/-- For a ring: the chunk it finishes, and the three it gathers. -/
def ordE (r : Bool) (c : Dev nD) : Option (Fin 3) ≃ Fin 4 :=
  Equiv.ofBijective (fun | none => rsK r 2 c | some t => agK r t c) (by revert r c; decide +kernel)

theorem bigSep_opt3 (Φ : Option (Fin 3) → sProp 𝕄) : bigSep Finset.univ Φ = iprop(Φ none ∗ Φ (some 0) ∗ Φ (some 1) ∗ Φ (some 2)) := by
  rw [bigSep_univ_eq_bigSepL [none, some 0, some 1, some 2] (by decide) (by decide), bigSepL_cons_cons, bigSepL_cons_cons, bigSepL_cons_cons, bigSepL_singleton]; rfl

variable (m : (ℓ : Loc nD τ sig) → Buf (Elt F) ℓ) (ρ : Dev nD → PrngReg)

/-- What a piece of the output holds at the end, in the ring's order. -/
def outO (c : Dev nD) (r : Bool) (b : Fin 4) : Option (Fin 3) → FVec F S128x2048 .f32
  | none => fin m ρ r b c
  | some 0 => pExt (msg3 m ρ r b (src r c))
  | some 1 => pExt (msg4 m ρ r b (src r c))
  | some 2 => pExt (msg5 m ρ r b (src r c))
/-- The same by chunk. -/
def outV (c : Dev nD) (p : Fin 4 × Bool × Fin 4) : FVec F S128x2048 .f32 := outO m ρ c p.2.1 p.2.2 ((ordE p.2.1 c).symm p.1)
/-- The output at the end. -/
def outAt (c : Dev nD) : FVec F S4096x2048 .f32 := Rect.glue absR absR_cover (outV m ρ c)

theorem outF_eq (c : Dev nD) (r : Bool) (b : Fin 4) : outF m ρ c r b = bigSep Finset.univ fun k : Fin 4 => outP c (absB k r b) (outV m ρ c (k, r, b)) := by
  rw [bigSep_univ_equiv (ordE r c), bigSep_opt3]
  unfold outV outF gath
  simp only [Equiv.symm_apply_apply, rsB_eq, agB_eq]
  rfl

theorem out_join (c : Dev nD) :
    (bigSep Finset.univ fun p : Fin 4 × Bool × Fin 4 => outP c (absB p.1 p.2.1 p.2.2) (outV m ρ c p)) ⊢ (owns (c : Thread nD τ) oM fullShare (outAt m ρ c) : sProp 𝕄) := by
  have hg (t) : (fun j => outAt m ρ c ((absR t).emb j)) = outV m ρ c t := funext fun y => Rect.glue_emb absR absR_cover absR_disj (outV m ρ c) t y
  have h : (bigSep Finset.univ fun t => owns (c : Thread nD τ) (oM.slice (absR t) (fun _ => rfl)) fullShare (fun j => outAt m ρ c ((absR t).emb j))) ⊢ (owns (c : Thread nD τ) oM fullShare (outAt m ρ c) : sProp 𝕄) :=
    owns_of_rects (Val := Elt F) (c : Thread nD τ) oM fullShare absR (fun _ _ => rfl) absR_disj absR_cover (outAt m ρ c)
  simp only [hg] at h
  exact h

end Cert.KernelIdeal.Ring

end
-- ==== Proof.Run.lean ====
module

public import proofs.«01_k».proof.Proof.Bands

/-! # The body after the entry barrier

All phases, from every piece's start to its end. -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions by piece, ring and phase -/

abbrev six (Φ : Fin 6 → sProp 𝕄) : sProp 𝕄 := iprop(Φ 0 ∗ Φ 1 ∗ Φ 2 ∗ Φ 3 ∗ Φ 4 ∗ Φ 5)

theorem bigSep_two (Φ : Bool → sProp 𝕄) : bigSep Finset.univ Φ = both Φ := by
  rw [bigSep_univ_eq_bigSepL [false, true] (by decide) (by decide), bigSepL_cons_cons, bigSepL_singleton]; rfl
theorem bigSep_six (Φ : Fin 6 → sProp 𝕄) : bigSep Finset.univ Φ = six Φ := by
  rw [bigSep_univ_eq_bigSepL [0, 1, 2, 3, 4, 5] (by decide) (by decide), bigSepL_cons_cons, bigSepL_cons_cons, bigSepL_cons_cons, bigSepL_cons_cons, bigSepL_cons_cons, bigSepL_singleton]; rfl
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl

theorem lane_eq (Φ : Bool → Fin 4 → sProp 𝕄) :
    bigSep Finset.univ (fun p : Bool × Fin 4 => Φ p.1 p.2) = bigSep Finset.univ (fun b : Fin 4 => both fun r => Φ r b) := by
  rw [bigSep_univ_equiv (Equiv.prodComm (Fin 4) Bool), bigSep_univ_prod]
  exact bigSep_congr fun b _ => bigSep_two (fun r => Φ r b)
theorem slot_lane {n : ℕ} (Φ : Bool → Fin n → Fin 4 → sProp 𝕄) :
    both (fun r => bigSep Finset.univ (fun p : Fin n × Fin 4 => Φ r p.1 p.2)) = bigSep Finset.univ (fun b : Fin 4 => both fun r => bigSep Finset.univ fun k : Fin n => Φ r k b) := by
  have h (r : Bool) : bigSep Finset.univ (fun p : Fin n × Fin 4 => Φ r p.1 p.2) = bigSep Finset.univ (fun b : Fin 4 => bigSep Finset.univ fun k : Fin n => Φ r k b) := by
    rw [bigSep_univ_equiv (Equiv.prodComm (Fin 4) (Fin n)), bigSep_univ_prod]; rfl
  unfold both
  simp only [h]
  rw [← bigSep_sep']
/-- The messages. -/
abbrev Msg := Fin 6 × Bool × Fin 4
theorem msg_lane (Φ : Fin 6 → Bool → Fin 4 → sProp 𝕄) :
    bigSep Finset.univ (fun x : Msg => Φ x.1 x.2.1 x.2.2) = bigSep Finset.univ (fun b : Fin 4 => both fun r => six fun σ => Φ σ r b) := by
  rw [bigSep_univ_equiv (Equiv.prodComm (Bool × Fin 4) (Fin 6)), bigSep_univ_prod, ← lane_eq (fun r b => six fun σ => Φ σ r b)]
  exact bigSep_congr fun p _ => bigSep_six (fun σ => Φ σ p.1 p.2)
theorem mid_msg (Φ : Mid → sProp 𝕄) :
    bigSep Finset.univ Φ = bigSep Finset.univ (fun x : Msg => iprop(Φ (false, x) ∗ Φ (true, x))) := by
  rw [bigSep_univ_prod, bigSep_two, bigSep_sep']

variable (m : (ℓ : Loc nD τ sig) → Buf (Elt F) ℓ) (ρ : Dev nD → PrngReg) (K : Dev nD × Option Mid → ℕ)

section
variable (c : Dev nD)

/-! ## A chunk's step -/

theorem out_congr {off off' : Fin 2 → ℕ} {inb : ∀ a, off a + S1024x2048.size a ≤ S4096x2048.size a} {inb' : ∀ a, off' a + S1024x2048.size a ≤ S4096x2048.size a} (h : off = off')
    (X : FVec F S1024x2048 .f32) :
    (owns (c : Thread nD τ) (oM.slice (Rect.unit (s := S4096x2048) off S1024x2048.size inb) (fun _ => rfl)) fullShare X : sProp 𝕄)
      = owns (c : Thread nD τ) (oM.slice (Rect.unit (s := S4096x2048) off' S1024x2048.size inb') (fun _ => rfl)) fullShare X := by
  subst h; rfl

theorem chunk_wp (j : Fin 3) {Q : PUnit → sProp 𝕄} :
    iprop(xw m ρ c ∗ ∃ X, chP (F := F) c (chK c j) X) ⊢ iprop(((xw m ρ c ∗ chP c (chK c j) (chV m ρ j c)) -∗ Q ⟨⟩) -∗ WP c (chunkP (chunkAt c j)) Q) := by
  have hc (X : FVec F S1024x2048 .f32) := out_congr (inb := (chunkAt c j).oinb) (inb' := chunk_inb (chK c j)) c (chunk_ooff c j) X
  unfold chunkP xw chP
  simp only [Prog.lift, Prog.bind_op, Prog.bind_ret, Prog.pure_eq_ret, ← hc]
  iintro ⟨⟨Hx, Hw⟩, %X, Ho⟩
  iintro Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_ld c (M := oM) (r := Rect.unit (s := S4096x2048) (chunkAt c j).ooff S1024x2048.size (chunkAt c j).oinb)) $$ Ho; iintro Ho
  iapply (wp_st c (M := oM) (r := Rect.unit (s := S4096x2048) (chunkAt c j).ooff S1024x2048.size (chunkAt c j).oinb)) $$ Ho; iintro Ho
  iapply wp_done
  iapply Hk
  isplitl [Hx Hw]
  · isplitl [Hx] <;> iassumption
  · iexact Ho

/-! ## The chunks' pieces join the pieces' states -/

theorem bands_intro (r : Bool) (b : Fin 4) :
    iprop(outP c (absB (chK c 0) r b) (bandV m ρ 0 r b c) ∗ outP c (absB (chK c 1) r b) (bandV m ρ 1 r b c) ∗ outP c (absB (chK c 2) r b) (bandV m ρ 2 r b c)) ⊢ bands m ρ c r b := by
  unfold bands
  simp only [rsB_eq, rsK_eq]
  cases r
  · rw [show jRS false 0 = 0 from rfl, show jRS false 1 = 2 from rfl, show jRS false 2 = 1 from rfl]
    iintro ⟨H0, H1, H2⟩; iframe
  · rw [show jRS true 0 = 1 from rfl, show jRS true 1 = 2 from rfl, show jRS true 2 = 0 from rfl]
    iintro ⟨H0, H1, H2⟩; iframe

theorem bands_join :
    iprop((bigSep Finset.univ fun b => S1 (F := F) c b) ∗ chP c (chK c 0) (chV m ρ 0 c) ∗ chP c (chK c 1) (chV m ρ 1 c) ∗ chP c (chK c 2) (chV m ρ 2 c))
      ⊢ bigSep Finset.univ fun b => S1' m ρ c b := by
  have h1 (j : Fin 3) : chP c (chK c j) (chV m ρ j c) ⊢ bigSep Finset.univ fun p : Bool × Fin 4 => outP c (absB (chK c j) p.1 p.2) (bandV m ρ j p.1 p.2 c) :=
    chunk_split c (chK c j) (chV m ρ j c)
  have h2 : iprop((bigSep Finset.univ fun p : Bool × Fin 4 => outP c (absB (chK c 0) p.1 p.2) (bandV m ρ 0 p.1 p.2 c))
      ∗ (bigSep Finset.univ fun p : Bool × Fin 4 => outP c (absB (chK c 1) p.1 p.2) (bandV m ρ 1 p.1 p.2 c))
      ∗ (bigSep Finset.univ fun p : Bool × Fin 4 => outP c (absB (chK c 2) p.1 p.2) (bandV m ρ 2 p.1 p.2 c)))
      ⊢ bigSep Finset.univ fun b : Fin 4 => both fun r => bands m ρ c r b := by
    rw [← lane_eq (fun r b => bands m ρ c r b), ← bigSep_sep', ← bigSep_sep']
    exact bigSep_mono fun p _ => bands_intro m ρ c p.1 p.2
  have h3 : iprop((bigSep Finset.univ fun b => S1 (F := F) c b) ∗ bigSep Finset.univ fun b : Fin 4 => both fun r => bands m ρ c r b) ⊢ bigSep Finset.univ fun b => S1' m ρ c b := by
    rw [← bigSep_sep']
    refine bigSep_mono fun b _ => ?_
    show iprop(S1 (F := F) c b ∗ both fun r => bands m ρ c r b) ⊢ S1' m ρ c b
    unfold S1 S1' both
    beta_reduce
    iintro ⟨⟨H1, H2⟩, H3, H4⟩
    iframe
  iintro ⟨HS, H0, H1, H2⟩
  iapply h3
  isplitl [HS]; · iexact HS
  iapply h2
  isplitl [H0]; · iapply (h1 0); iexact H0
  isplitl [H1]; · iapply (h1 1); iexact H1
  iapply (h1 2); iexact H2

/-! ## The phases in a row -/

/-- The body after the entry. -/
def coreP (d : Dev nD) (v15 : F .f32) : P F PUnit := do
  lanes (initP d)
  chunkP (chunkAt d 0)
  chunkP (chunkAt d 1)
  chunkP (chunkAt d 2)
  lanes (rsP d 0 1 1)
  lanes (rsP d 1 0 2)
  lanes (rsLastP v15 d)
  lanes (agP d 0 1)
  lanes (agP d 1 2)
  lanes (agLastP d)
  lanes endP0
  lanes (endP 1 0)
  lanes (endP 2 1)

/-- A phase, in the run. -/
theorem phase {E : sProp 𝕄} [BI.Persistent E] {f : Fin 4 → Bool → P F PUnit} {Pre Post : Fin 4 → sProp 𝕄} {Q : PUnit → sProp 𝕄} (R : ℕ → sProp 𝕄)
    (h : ∀ b, iprop(E ∗ Pre b ∗ R b.val) ⊢ WP c (f b false) (fun _ => WP c (f b true) (fun _ => iprop(Post b ∗ R (b.val + 1))))) :
    iprop(E ∗ bigSep Finset.univ Pre ∗ R 0) ⊢ iprop(((bigSep Finset.univ Post ∗ R 4) -∗ Q ⟨⟩) -∗ WP c (lanes f) Q) :=
  wp_use (lanes_wp h)

theorem core_wp (Q : PUnit → sProp 𝕄) :
    iprop(env m ρ K ∗ (bigSep Finset.univ fun b => S0 (F := F) c b)
        ∗ ((∃ X, chP (F := F) c (chK c 0) X) ∗ (∃ X, chP (F := F) c (chK c 1) X) ∗ ∃ X, chP (F := F) c (chK c 2) X) ∗ owe (F := F) c 0 ∗ xw m ρ c)
      ⊢ iprop((((bigSep Finset.univ fun b => S10 m ρ c b) ∗ owe (F := F) c 48 ∗ xw m ρ c) -∗ Q ⟨⟩) -∗ WP c (coreP c (scl m ρ c)) Q) := by
  unfold coreP WP
  simp only [wp_bind]
  iintro ⟨#He, HS, ⟨Hc0, Hc1, Hc2⟩, HO, Hxw⟩
  iintro Hk
  iapply (phase (E := env m ρ K) c (fun i => iprop(owe (F := F) c (2 * i) ∗ xw m ρ c)) (fun b => by
    have h := ln_init m ρ K c b
    rw [idx_true, show idx 0 false b = 2 * b.val from by clear h; revert b; decide] at h
    exact h)) $$ [HS HO Hxw]
  · isplitr; · iexact He
    isplitl [HS]; · iexact HS
    isplitl [HO] <;> iassumption
  iintro ⟨HS, HO, Hxw⟩
  iapply (chunk_wp m ρ c 0) $$ [Hxw Hc0]
  · isplitl [Hxw] <;> iassumption
  iintro ⟨Hxw, Hc0⟩
  iapply (chunk_wp m ρ c 1) $$ [Hxw Hc1]
  · isplitl [Hxw] <;> iassumption
  iintro ⟨Hxw, Hc1⟩
  iapply (chunk_wp m ρ c 2) $$ [Hxw Hc2]
  · isplitl [Hxw] <;> iassumption
  iintro ⟨Hxw, Hc2⟩
  ihave HS := (bands_join m ρ c) $$ [HS Hc0 Hc1 Hc2]
  · isplitl [HS]; · iexact HS
    isplitl [Hc0]; · iexact Hc0
    isplitl [Hc1] <;> iassumption
  iapply (phase (E := env m ρ K) c (fun i => owe (F := F) c (8 + 2 * i)) (fun b => by
    have h := ln_rs0 m ρ K c b
    rw [idx_true, show idx 1 false b = 8 + 2 * b.val from by clear h; revert b; decide] at h
    exact h)) $$ [HS HO]
  · isplitr; · iexact He
    isplitl [HS] <;> iassumption
  iintro ⟨HS, HO⟩
  iapply (phase (E := env m ρ K) c (fun i => owe (F := F) c (16 + 2 * i)) (fun b => by
    have h := ln_rs1 m ρ K c b
    rw [idx_true, show idx 2 false b = 16 + 2 * b.val from by clear h; revert b; decide] at h
    exact h)) $$ [HS HO]
  · isplitr; · iexact He
    isplitl [HS] <;> iassumption
  iintro ⟨HS, HO⟩
  iapply (phase (E := env m ρ K) c (fun i => owe (F := F) c (24 + 2 * i)) (fun b => by
    have h := ln_rs2 m ρ K c b
    rw [idx_true, show idx 3 false b = 24 + 2 * b.val from by clear h; revert b; decide] at h
    exact h)) $$ [HS HO]
  · isplitr; · iexact He
    isplitl [HS] <;> iassumption
  iintro ⟨HS, HO⟩
  iapply (phase (E := env m ρ K) c (fun i => owe (F := F) c (32 + 2 * i)) (fun b => by
    have h := ln_ag0 m ρ K c b
    rw [idx_true, show idx 4 false b = 32 + 2 * b.val from by clear h; revert b; decide] at h
    exact h)) $$ [HS HO]
  · isplitr; · iexact He
    isplitl [HS] <;> iassumption
  iintro ⟨HS, HO⟩
  iapply (phase (E := env m ρ K) c (fun i => owe (F := F) c (40 + 2 * i)) (fun b => by
    have h := ln_ag1 m ρ K c b
    rw [idx_true, show idx 5 false b = 40 + 2 * b.val from by clear h; revert b; decide] at h
    exact h)) $$ [HS HO]
  · isplitr; · iexact He
    isplitl [HS] <;> iassumption
  iintro ⟨HS, HO⟩
  iapply (phase (E := env m ρ K) c (fun _ => owe (F := F) c 48) (ln_ag2 m ρ K c)) $$ [HS HO]
  · isplitr; · iexact He
    isplitl [HS] <;> iassumption
  iintro ⟨HS, HO⟩
  iapply (phase (E := env m ρ K) c (fun _ => owe (F := F) c 48) (ln_end0 m ρ K c)) $$ [HS HO]
  · isplitr; · iexact He
    isplitl [HS] <;> iassumption
  iintro ⟨HS, HO⟩
  iapply (phase (E := env m ρ K) c (fun _ => owe (F := F) c 48) (ln_end1 m ρ K c)) $$ [HS HO]
  · isplitr; · iexact He
    isplitl [HS] <;> iassumption
  iintro ⟨HS, HO⟩
  iapply (phase (E := env m ρ K) c (fun _ => owe (F := F) c 48) (ln_end2 m ρ K c)) $$ [HS HO]
  · isplitr; · iexact He
    isplitl [HS] <;> iassumption
  iintro ⟨HS, HO⟩
  iapply Hk
  isplitl [HS]; · iexact HS
  isplitl [HO] <;> iassumption

end

end Cert.KernelIdeal.Ring

end
-- ==== Proof.Entry.lean ====
module

public import proofs.«01_k».proof.Proof.Run

/-! # The entry

Both neighbours' barriers are signalled, with the slots they send into; its own is waited for; the scales are read. -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option Mid → ℕ) (c : Dev nD)

theorem bigSep_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]; rfl
theorem bigSep_pair (Φ : Fin 2 → sProp 𝕄) : bigSep Finset.univ Φ = iprop(Φ 0 ∗ Φ 1) := by
  rw [bigSep_univ_eq_bigSepL [0, 1] (by decide) (by decide), bigSepL_cons_cons, bigSepL_singleton]; rfl

theorem permB_eq (r : Bool) (b : Fin 4) : permB (F := F) c r b = bigSep Finset.univ fun k : Fin 3 => perm (F := F) c r k b := by
  rw [bigSep_three]; rfl
theorem barPay_eq (r : Bool) : barPay (F := F) c r = bigSep Finset.univ fun b : Fin 4 => permB (F := F) c r b := by
  rw [bigSep_four]; rfl

/-- A device's slots, given to the device that sends into them. -/
theorem barPay_intro (r : Bool) (d : Dev nD) (hd : d = src r c) : (iprop(∃ X, owns (c : Thread nD τ) (commM r) fullShare X) : sProp 𝕄) ⊢ barPay (F := F) d r := by
  subst hd
  refine (comm_split c r).trans (Entails.of_eq ?_)
  rw [barPay_eq, bigSep_univ_equiv (Equiv.prodComm (Fin 4) (Fin 3)), bigSep_univ_prod]
  refine bigSep_congr fun b _ => ?_
  rw [permB_eq]
  refine bigSep_congr fun k _ => ?_
  unfold perm
  rw [dst_src]
  rfl

theorem perms_eq : iprop(barPay (F := F) c false ∗ barPay (F := F) c true) = bigSep Finset.univ fun b : Fin 4 => both fun r => permB (F := F) c r b := by
  rw [barPay_eq, barPay_eq, ← bigSep_sep']

/-- The scales' buffers. -/
def sc : sProp 𝕄 :=
  iprop((((c : Thread nD τ).loc cc0_stg2_0) ↦{fullShare} sxin m ρ c) ∗ (((c : Thread nD τ).loc cc0_stg3_0) ↦{fullShare} swin m ρ c))

theorem entry_wp (W : Waits sig Unit) (Q : F .f32 → sProp 𝕄) :
    iprop(env m ρ K ∗ (dutyTok ER (barCell (prv c)) 0 false ∗ dutyTok ER (barCell (nxt c)) 0 true ∗ atPos ER (barCell c) 0 ∅ 0 ∗ cred (tallyAt (barCell c) () 2))
        ∗ owes (c : Thread nD τ) (O₀ c) W
        ∗ ((∃ X, owns (c : Thread nD τ) (commM false) fullShare X) ∗ ∃ X, owns (c : Thread nD τ) (commM true) fullShare X) ∗ sc m ρ c)
      ⊢ iprop(((owe (F := F) c 0 ∗ atPos ER (barCell c) 1 ∅ 0 ∗ (bigSep Finset.univ fun b : Fin 4 => both fun r => permB (F := F) c r b) ∗ sc m ρ c) -∗ Q (scl m ρ c))
          -∗ WP c (entryP c) Q) := by
  unfold entryP sc owe scl
  simp only [semSignalWord, semWaitWord, smemLoad, smemLoadElt, Prog.lift, Prog.bind_op, Prog.bind_ret, Prog.pure_eq_ret, dev1_eq, dev2_eq]
  iintro ⟨#He, ⟨Ht1, Ht2, Hat, Hc⟩, HO, ⟨Hcf, Hct⟩, Hsx, Hsw⟩
  iintro Hk
  unfold O₀
  iapply (Rounds.wp_signal 𝒱₀ ER (ringRd m ρ) (c : Thread nD τ) none (dst := (prv c : Thread nD τ)) (κ := K (prv c, none))
      (d := false) (by rw [duties_bar]; exact Finset.mem_univ _) ((amount_bar m ρ (prv c) false).trans (by decide)) () (O₁ c) rfl) $$ [HO Ht1 Hcf]
  · isplitr; · iapply (env_inv (prv c, none)); iexact He
    isplitl [HO]; · iexact HO
    isplitl [Ht1]; · iexact Ht1
    isplitl [Hcf]; · rw [payload_bar]; iapply (barPay_intro c false (prv c) rfl); iexact Hcf
    iapply (env_reached (prv c, none)); iexact He
  iintro HO
  unfold O₁
  iapply (Rounds.wp_signal 𝒱₀ ER (ringRd m ρ) (c : Thread nD τ) none (dst := (nxt c : Thread nD τ)) (κ := K (nxt c, none))
      (d := true) (by rw [duties_bar]; exact Finset.mem_univ _) ((amount_bar m ρ (nxt c) true).trans (by decide)) () (Orem c 0) rfl) $$ [HO Ht2 Hct]
  · isplitr; · iapply (env_inv (nxt c, none)); iexact He
    isplitl [HO]; · iexact HO
    isplitl [Ht2]; · iexact Ht2
    isplitl [Hct]; · rw [payload_bar]; iapply (barPay_intro c true (nxt c) rfl); iexact Hct
    iapply (env_reached (nxt c, none)); iexact He
  iintro HO
  iapply (Rounds.wp_wait_rest_token 𝒱₀ ER (ringRd m ρ) (c : Thread nD τ) none (κ := K (c, none))
      (wpE_semWait_eq 𝒱₀ (c : Thread nD τ) none Set.univ) (Set.mem_univ _) () (O := Orem c 0) (W := W) (R := 0) (m := 0) (T := ∅)
      (by rw [expect_bar]; decide)) $$ [Hc HO Hat]
  · isplitr; · iapply (env_inv (c, none)); iexact He
    isplitl [Hc]; · iexact Hc
    isplitl [HO]; · iexact HO
    isplitr; · iapply (mayWait_bar c); iapply env_lev; iexact He
    iexact Hat
  iintro ⟨HO, Hat, -, Hpay⟩
  ihave Hp := (Entails.of_eq (rest_bar m ρ c)) $$ Hpay
  iapply (wp_load_rect 𝒱₀ (c : Thread nD τ) none Set.univ (m := sxM) (r := sR) (Finset.subset_univ _)) $$ Hsx; iintro Hsx
  iapply (wp_load_rect 𝒱₀ (c : Thread nD τ) none Set.univ (m := swM) (r := sR) (Finset.subset_univ _)) $$ Hsw; iintro Hsw
  iapply wp_done
  iapply Hk
  isplitl [HO]; · iexists _; iexact HO
  isplitl [Hat]; · iexact Hat
  isplitl [Hp]; · iapply (Entails.of_eq (perms_eq (F := F) c)); iexact Hp
  isplitl [Hsx] <;> iassumption

end Cert.KernelIdeal.Ring

end
-- ==== Proof.Align.lean ====
module

public import proofs.«01_k».proof.Proof.Steps

/-! # The printed body is the sequence of steps -/

@[expose] public section
namespace Cert.KernelIdeal.Steps
open Idealize.ShloMosaic Idealize.SL.Sem
open Gen
variable {F : FTy → Type} [FloatOps F]

set_option maxHeartbeats 20000000 in
set_option maxRecDepth 65536 in
theorem body_eq : cc0_body (F := F) xM (Memref.isWhole_whole _) wM (Memref.isWhole_whole _) sxM (Memref.isWhole_whole _) swM (Memref.isWhole_whole _) oM (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11 = bodyP := by
  rw [cc0_body_eq_skeleton]
  simp only [cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, bodyP, entryP, lanes, initP, chunkP, rsP, rsLastP, agP, agLastP, endP0, endP, ldOut, stOut, ldComm, ldStage, stStage, sendStage, sendComm, waitSC, waitCS, waitCC, semSignalWord, semWaitWord, smemLoad, Prog.lift, Prog.bind_op, Prog.bind_ret, Prog.pure_eq_ret]
  rfl
end Cert.KernelIdeal.Steps
-- ==== Proof.Body.lean ====
module

public import proofs.«01_k».proof.Proof.Entry
public import proofs.«01_k».proof.Proof.Align

/-! # The whole body

From what a device starts with to its output, its work buffers and its semaphores at zero. -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option Mid → ℕ) (c : Dev nD)

/-! ## The start: every piece's first state -/

/-- The work buffers, whatever they hold. -/
def comms : sProp 𝕄 := iprop((∃ X, owns (c : Thread nD τ) (commM false) fullShare X) ∗ ∃ X, owns (c : Thread nD τ) (commM true) fullShare X)
def stages : sProp 𝕄 := iprop((∃ X, owns (c : Thread nD τ) (stageM false) fullShare X) ∗ ∃ X, owns (c : Thread nD τ) (stageM true) fullShare X)

theorem stages_split : stages (F := F) c ⊢ bigSep Finset.univ fun b : Fin 4 => both fun r => iprop(stageAny (F := F) c r 0 b ∗ stageAny (F := F) c r 1 b) := by
  have h : (bigSep Finset.univ fun b : Fin 4 => both fun r => iprop(stageAny (F := F) c r 0 b ∗ stageAny (F := F) c r 1 b))
      = both (fun r => bigSep Finset.univ fun p : Fin 2 × Fin 4 => stageAny (F := F) c r p.1 p.2) := by
    rw [slot_lane]; simp only [bigSep_pair]
  rw [h]
  unfold stages both
  iintro ⟨H1, H2⟩
  isplitl [H1]
  · iapply (stage_split c false); iexact H1
  · iapply (stage_split c true); iexact H2
theorem stages_join : (bigSep Finset.univ fun b : Fin 4 => both fun r => bigSep Finset.univ fun k : Fin 2 => stageAny (F := F) c r k b) ⊢ stages (F := F) c := by
  rw [← slot_lane]
  unfold stages both
  iintro ⟨H1, H2⟩
  isplitl [H1]
  · iapply (stage_join c false); iexact H1
  · iapply (stage_join c true); iexact H2
theorem comms_join : (bigSep Finset.univ fun b : Fin 4 => both fun r => bigSep Finset.univ fun k : Fin 3 => commAny (F := F) c r k b) ⊢ comms (F := F) c := by
  rw [← slot_lane]
  unfold comms both
  iintro ⟨H1, H2⟩
  isplitl [H1]
  · iapply (comm_join c false); iexact H1
  · iapply (comm_join c true); iexact H2

theorem outP_any (B : Band) (X : FVec F S128x2048 .f32) : outP c B X ⊢ outAny (F := F) c B := by
  unfold outAny; iintro H; iexists X; iexact H
/-- The output splits into a device's own chunk, by piece, and the chunks it computes after that. -/
theorem out_split : (iprop(∃ X, owns (c : Thread nD τ) oM fullShare X) : sProp 𝕄)
    ⊢ iprop((bigSep Finset.univ fun b : Fin 4 => both fun r => outAny (F := F) c (ownB c r b))
        ∗ (∃ X, chP (F := F) c (chK c 0) X) ∗ (∃ X, chP (F := F) c (chK c 1) X) ∗ ∃ X, chP (F := F) c (chK c 2) X) := by
  have h : (iprop(∃ X, chP (F := F) c c X)) ⊢ bigSep Finset.univ fun b : Fin 4 => both fun r => outAny (F := F) c (ownB c r b) := by
    rw [← lane_eq fun r b => outAny (F := F) c (ownB c r b)]
    iintro ⟨%X, H⟩
    ihave H := (chunk_split c c X) $$ H
    iapply (show (bigSep Finset.univ fun p : Bool × Fin 4 => outP c (absB c p.1 p.2) (fun i => X ((subR p.1 p.2).emb i)))
        ⊢ bigSep Finset.univ fun p : Bool × Fin 4 => outAny (F := F) c (ownB c p.1 p.2) from bigSep_mono fun p _ => by
      rw [ownB_eq]
      exact outP_any c (absB c p.1 p.2) _)
    iexact H
  refine (out_chunks c).trans ?_
  rw [bigSep_univ_equiv (chE c), bigSep_opt3]
  refine sep_mono_left ?_
  exact h

theorem start_lanes :
    iprop((bigSep Finset.univ fun x : Msg => fresh (F := F) c x.1 x.2.1 x.2.2) ∗ (bigSep Finset.univ fun b : Fin 4 => both fun r => outAny (F := F) c (ownB c r b))
        ∗ (bigSep Finset.univ fun b : Fin 4 => both fun r => iprop(stageAny (F := F) c r 0 b ∗ stageAny (F := F) c r 1 b))
        ∗ bigSep Finset.univ fun b : Fin 4 => both fun r => permB (F := F) c r b)
      ⊢ bigSep Finset.univ fun b : Fin 4 => S0 (F := F) c b := by
  rw [msg_lane fun σ r b => fresh (F := F) c σ r b, ← bigSep_sep', ← bigSep_sep', ← bigSep_sep']
  refine bigSep_mono fun b _ => ?_
  show iprop((both fun r => six fun σ => fresh (F := F) c σ r b) ∗ (both fun r => outAny (F := F) c (ownB c r b))
      ∗ (both fun r => iprop(stageAny (F := F) c r 0 b ∗ stageAny (F := F) c r 1 b)) ∗ both fun r => permB (F := F) c r b) ⊢ S0 (F := F) c b
  unfold S0 A0 both six
  beta_reduce
  iintro ⟨⟨Ha, Hb⟩, ⟨Hc, Hd⟩, ⟨He, Hf⟩, Hg, Hh⟩
  isplitl [Ha Hc He Hg]
  · isplitl [Ha]; · iexact Ha
    isplitl [Hc]; · iexact Hc
    isplitl [He] <;> iassumption
  · isplitl [Hb]; · iexact Hb
    isplitl [Hd]; · iexact Hd
    isplitl [Hf] <;> iassumption

/-! ## The end: what the pieces' last states make -/

theorem last_eq (r : Bool) (b : Fin 4) :
    A10 m ρ c r b ⊢ iprop((bigSep Finset.univ fun k : Fin 4 => outP c (absB k r b) (outV m ρ c (k, r, b))) ∗ (bigSep Finset.univ fun k : Fin 2 => stageAny (F := F) c r k b)
      ∗ (bigSep Finset.univ fun k : Fin 3 => commAny (F := F) c r k b) ∗ six fun σ => settled (F := F) c σ r b) := by
  rw [← outF_eq, bigSep_pair, bigSep_three]
  unfold A10 set3 six
  iintro ⟨H0, ⟨H1, H2, H3⟩, H4, H5, ⟨H6, H7⟩, ⟨H8, H9⟩, H10, H11⟩
  iframe

theorem out_lanes : (bigSep Finset.univ fun b : Fin 4 => both fun r => bigSep Finset.univ fun k : Fin 4 => outP c (absB k r b) (outV m ρ c (k, r, b)))
    ⊢ (owns (c : Thread nD τ) oM fullShare (outAt m ρ c) : sProp 𝕄) := by
  refine BIBase.Entails.trans (Entails.of_eq ?_) (out_join m ρ c)
  rw [bigSep_univ_equiv (Equiv.prodComm (Bool × Fin 4) (Fin 4)), bigSep_univ_prod,
    ← lane_eq (fun r b => bigSep Finset.univ fun k : Fin 4 => outP c (absB k r b) (outV m ρ c (k, r, b)))]
  rfl

theorem end_lanes :
    (bigSep Finset.univ fun b : Fin 4 => S10 m ρ c b)
      ⊢ iprop(owns (c : Thread nD τ) oM fullShare (outAt m ρ c) ∗ stages (F := F) c ∗ comms (F := F) c
          ∗ bigSep Finset.univ fun x : Msg => settled (F := F) c x.1 x.2.1 x.2.2) := by
  have h : (bigSep Finset.univ fun b : Fin 4 => S10 m ρ c b)
      ⊢ iprop((bigSep Finset.univ fun b : Fin 4 => both fun r => bigSep Finset.univ fun k : Fin 4 => outP c (absB k r b) (outV m ρ c (k, r, b)))
        ∗ (bigSep Finset.univ fun b : Fin 4 => both fun r => bigSep Finset.univ fun k : Fin 2 => stageAny (F := F) c r k b)
        ∗ (bigSep Finset.univ fun b : Fin 4 => both fun r => bigSep Finset.univ fun k : Fin 3 => commAny (F := F) c r k b)
        ∗ bigSep Finset.univ fun b : Fin 4 => both fun r => six fun σ => settled (F := F) c σ r b) := by
    rw [← bigSep_sep', ← bigSep_sep', ← bigSep_sep']
    refine bigSep_mono fun b _ => ?_
    refine BIBase.Entails.trans (show S10 m ρ c b ⊢ iprop(_ ∗ _) from BI.sep_mono (last_eq m ρ c false b) (last_eq m ρ c true b)) ?_
    unfold both
    beta_reduce
    iintro ⟨⟨Ha, Hb, Hc, Hd⟩, He, Hf, Hg, Hh⟩
    isplitl [Ha He]; · isplitl [Ha] <;> iassumption
    isplitl [Hb Hf]; · isplitl [Hb] <;> iassumption
    isplitl [Hc Hg]; · isplitl [Hc] <;> iassumption
    isplitl [Hd] <;> iassumption
  refine h.trans ?_
  rw [msg_lane fun σ r b => settled (F := F) c σ r b]
  exact BI.sep_mono (out_lanes m ρ c) (BI.sep_mono (stages_join c) (BI.sep_mono (comms_join c) (BI.Entails.refl _)))

/-! ## The cells close -/

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_at (o : Option Mid) : iprop(env m ρ K ∗ atPos ER (kcell (c, o)) 1 ∅ 0) ⊢ (|={Set.univ}=> semVal (kcell (c, o)) 0 : sProp 𝕄) := by
  iintro ⟨#He, Ha⟩
  imod (Rounds.cell_close ER (ringRd m ρ) (Set.mem_univ (K (c, o))) (fun h => h) (R := 0 + 1) (duties_later m ρ (kcell (c, o)))) $$ [Ha] with Hz
  · isplitr; · iapply (env_inv (c, o)); iexact He
    iexact Ha
  imodintro
  iexact Hz

theorem close_all : iprop(env m ρ K ∗ bigSep Finset.univ fun x : Msg => settled (F := F) c x.1 x.2.1 x.2.2)
    ⊢ (|={Set.univ}=> bigSep Finset.univ fun x : Mid => semVal (mcell c x) 0 : sProp 𝕄) := by
  rw [mid_msg fun x : Mid => (semVal (mcell c x) 0 : sProp 𝕄)]
  refine (bigSep_with fun x _ => ?_).trans (bigSep_fupd _ _)
  show iprop(env m ρ K ∗ settled (F := F) c x.1 x.2.1 x.2.2) ⊢ (|={Set.univ}=> iprop(semVal (mcell c (false, x)) 0 ∗ semVal (mcell c (true, x)) 0) : sProp 𝕄)
  unfold settled
  iintro ⟨#He, Hs, Hr⟩
  imod (close_at m ρ K c (some (false, x))) $$ [Hs] with H1
  · isplitr; · iexact He
    iexact Hs
  imod (close_at m ρ K c (some (true, x))) $$ [Hr] with H2
  · isplitr; · iexact He
    iexact Hr
  imodintro
  isplitl [H1] <;> iassumption

/-! ## The whole body -/

/-- What a device starts with besides its buffers: the barrier's tokens and its messages'. -/
def gate : sProp 𝕄 :=
  iprop(dutyTok ER (barCell (prv c)) 0 false ∗ dutyTok ER (barCell (nxt c)) 0 true ∗ atPos ER (barCell c) 0 ∅ 0 ∗ cred (tallyAt (barCell c) () 2))

theorem bodyP_eq : bodyP (F := F) = (do let d : Dev nD ← Prog.lift .deviceId; let v15 : F .f32 ← entryP d; coreP d v15) := rfl

theorem whole_wp (W : Waits sig Unit) (Q : PUnit → sProp 𝕄) :
    iprop(env m ρ K ∗ gate (F := F) c ∗ (bigSep Finset.univ fun x : Msg => fresh (F := F) c x.1 x.2.1 x.2.2) ∗ owes (c : Thread nD τ) (O₀ c) W
        ∗ comms (F := F) c ∗ stages (F := F) c ∗ (∃ X, owns (c : Thread nD τ) oM fullShare X) ∗ sc m ρ c ∗ xw m ρ c)
      ⊢ iprop((((semVal (barCell c) 0 ∗ bigSep Finset.univ fun x : Mid => semVal (mcell c x) 0) ∗ (∃ W, owes (c : Thread nD τ) 0 W)
          ∗ comms (F := F) c ∗ stages (F := F) c ∗ owns (c : Thread nD τ) oM fullShare (outAt m ρ c) ∗ sc m ρ c ∗ xw m ρ c) -∗ Q ⟨⟩) -∗ WP c bodyP Q) := by
  rw [bodyP_eq]
  unfold gate WP
  simp only [Prog.lift, Prog.bind_op, Prog.bind_ret, wp_deviceId, wp_bind]
  iintro ⟨#He, Hg, Hm, HO, Hc, Hs, Ho, Hsc, Hxw⟩
  iintro Hk
  ihave Ho := (out_split c) $$ Ho
  icases Ho with ⟨Hown, Hch⟩
  ihave Hst := (stages_split c) $$ Hs
  iapply (entry_wp m ρ K c W) $$ [Hg HO Hc Hsc]
  · unfold comms
    isplitr; · iexact He
    isplitl [Hg]; · iexact Hg
    isplitl [HO]; · iexact HO
    isplitl [Hc] <;> iassumption
  iintro ⟨HO, Hat, Hp, Hsc⟩
  ihave HS := (start_lanes c) $$ [Hm Hown Hst Hp]
  · isplitl [Hm]; · iexact Hm
    isplitl [Hown]; · iexact Hown
    isplitl [Hst] <;> iassumption
  iapply wp_fupd
  iapply (core_wp m ρ K c) $$ [HS Hch HO Hxw]
  · isplitr; · iexact He
    isplitl [HS]; · iexact HS
    isplitl [Hch]; · iexact Hch
    isplitl [HO] <;> iassumption
  iintro ⟨HS, HO, Hxw⟩
  ihave HS := (end_lanes m ρ c) $$ HS
  icases HS with ⟨Ho, Hs, Hc, Hset⟩
  imod (close_all m ρ K c) $$ [Hset] with Hz
  · isplitr; · iexact He
    iexact Hset
  imod (close_at m ρ K c none) $$ [Hat] with Hb
  · isplitr; · iexact He
    iexact Hat
  imodintro
  iapply Hk
  isplitl [Hb Hz]
  · isplitl [Hb] <;> iassumption
  isplitl [HO]; · unfold owe; rw [Orem_end]; iexact HO
  isplitl [Hc]; · iexact Hc
  isplitl [Hs]; · iexact Hs
  isplitl [Ho]; · iexact Ho
  isplitl [Hsc] <;> iassumption

end Cert.KernelIdeal.Ring

end
-- ==== Proof.Oblig.lean ====
module

public import proofs.«01_k».proof.Proof.Body
public import proofs.«01_k».proof.Proof.Gen.KernelIdeal.Points

/-! # The pipeline's data and the body's obligation -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The tokens a device's body starts from, and its place at every semaphore of its own. -/
def hand (c : Dev nD) : sProp 𝕄 :=
  iprop((dutyTok ER (barCell (prv c)) 0 false ∗ dutyTok ER (barCell (nxt c)) 0 true ∗ atPos ER (barCell c) 0 ∅ 0)
    ∗ bigSep Finset.univ fun x : Msg => iprop((dutyTok ER (mcell c (false, x)) 0 false ∗ dutyTok ER (mcell (dst x.2.1 c) (true, x)) 0 false)
        ∗ atPos ER (mcell c (false, x)) 0 ∅ 0 ∗ atPos ER (mcell c (true, x)) 0 ∅ 0))
def ghost (K : Dev nD × Option Mid → ℕ) (c : Dev nD) : sProp 𝕄 := iprop(records m ρ K ∗ hand (F := F) c)

/-- What a device starts from: that at some names, its credits and the levels. -/
def start (c : Dev nD) : sProp 𝕄 :=
  iprop((∃ K, ghost m ρ K c) ∗ (cred (tallyAt (barCell c) () 2) ∗ bigSep Finset.univ fun x : Msg => cred (tallyAt (mcell c (true, x)) () N)) ∗ levAts L lv)

def bufs (c : Dev nD) : sProp 𝕄 := iprop(comms (F := F) c ∗ stages (F := F) c)
def Φ₀ (c : Dev nD) : sProp 𝕄 := iprop(start m ρ c ∗ bufs (F := F) c)
def Φ₁ (c : Dev nD) : sProp 𝕄 := iprop(bufs (F := F) c ∗ semVal (barCell c) 0 ∗ bigSep Finset.univ fun x : Mid => semVal (mcell c x) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => win m ρ c
    | ⟨2, _⟩ => sxin m ρ c
    | ⟨3, _⟩ => swin m ρ c
    | ⟨4, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ (F := F) c ∗ (dats m ρ 0 c).owesAt () t₀.succ ∗ stg c cc0_stg0_0 (xin m ρ c) ∗ stg c cc0_stg1_0 (win m ρ c)
    ∗ stg c cc0_stg2_0 (sxin m ρ c) ∗ stg c cc0_stg3_0 (swin m ρ c) ∗ stg c cc0_stg4_0 (outAt m ρ c))

theorem fresh_intro (c : Dev nD) :
    iprop((bigSep Finset.univ fun x : Msg => iprop((dutyTok ER (mcell c (false, x)) 0 false ∗ dutyTok ER (mcell (dst x.2.1 c) (true, x)) 0 false)
        ∗ atPos ER (mcell c (false, x)) 0 ∅ 0 ∗ atPos ER (mcell c (true, x)) 0 ∅ 0))
      ∗ bigSep Finset.univ fun x : Msg => cred (tallyAt (mcell c (true, x)) () N))
      ⊢ (bigSep Finset.univ fun x : Msg => fresh (F := F) c x.1 x.2.1 x.2.2 : sProp 𝕄) := by
  rw [← bigSep_sep']
  refine bigSep_mono fun x _ => ?_
  show iprop(((dutyTok ER (mcell c (false, x)) 0 false ∗ dutyTok ER (mcell (dst x.2.1 c) (true, x)) 0 false)
        ∗ atPos ER (mcell c (false, x)) 0 ∅ 0 ∗ atPos ER (mcell c (true, x)) 0 ∅ 0) ∗ cred (tallyAt (mcell c (true, x)) () N)) ⊢ (fresh (F := F) c x.1 x.2.1 x.2.2 : sProp 𝕄)
  unfold fresh
  iintro ⟨⟨⟨H1, H2⟩, H3, H4⟩, H5⟩
  isplitl [H1]; · iexact H1
  isplitl [H2]; · iexact H2
  isplitl [H3]; · iexact H3
  isplitl [H4] <;> iassumption

set_option maxRecDepth 4000 in
theorem body_sound (c : Dev nD) : bodyPre m ρ c ⊢ WP c (bodyP (F := F)) (fun _ => bodyPost m ρ c) := by
  unfold bodyPre Φ₀ start ghost hand bufs
  iintro ⟨⟨⟨⟨%K, #HR, ⟨Hb1, Hb2, Hb3⟩, Hm⟩, ⟨Hcb, Hcm⟩, #Hlev⟩, Hc, Hs⟩, HO, ⟨%d0, %g0, %hg0, Hx⟩, ⟨%d1, %g1, %hg1, Hw⟩, ⟨%d2, %g2, %hg2, Hsx⟩, ⟨%d3, %g3, %hg3, Hsw⟩, ⟨%d4, %g4, %hg4, Hout⟩⟩
  have hx : g0 = xin m ρ c := by rw [hg0]; unfold Dat.before; rw [if_pos (fetch0_0 t₀)]; rfl
  have hw : g1 = win m ρ c := by rw [hg1]; unfold Dat.before; rw [if_pos (fetch0_1 t₀)]; rfl
  have hsx : g2 = sxin m ρ c := by rw [hg2]; unfold Dat.before; rw [if_pos (fetch0_2 t₀)]; rfl
  have hsw : g3 = swin m ρ c := by rw [hg3]; unfold Dat.before; rw [if_pos (fetch0_3 t₀)]; rfl
  clear hg0 hg1 hg2 hg3 hg4
  subst hx hw hsx hsw
  unfold Dat.owesAt Pipeline.owesWithin
  icases HO with ⟨%W, %hW, HO⟩
  rw [show (dats m ρ 0 c).owed t₀.castSucc = O₀ c from rfl]
  ihave Hfr := (fresh_intro (F := F) c) $$ [Hm Hcm]
  · isplitl [Hm] <;> iassumption
  iapply (whole_wp m ρ K c W) $$ [Hb1 Hb2 Hb3 Hcb Hfr HO Hc Hs Hx Hw Hsx Hsw Hout]
  · isplitr
    · unfold env; isplitr; · iexact HR
      iexact Hlev
    isplitl [Hb1 Hb2 Hb3 Hcb]
    · unfold gate
      isplitl [Hb1]; · iexact Hb1
      isplitl [Hb2]; · iexact Hb2
      isplitl [Hb3] <;> iassumption
    isplitl [Hfr]; · iexact Hfr
    isplitl [HO]; · iexact HO
    isplitl [Hc]; · iexact Hc
    isplitl [Hs]; · iexact Hs
    isplitl [Hout]
    · iexists g4
      rw [owns_whole_eq c cc0_stg4_0 g4]
      iexists g4
      isplitr; · ipureintro; rfl
      iexact Hout
    unfold sc xw
    isplitl [Hsx Hsw]
    · isplitl [Hsx] <;> iassumption
    · isplitl [Hx] <;> iassumption
  unfold sc xw
  iintro ⟨Hz, ⟨%W', HO⟩, Hc, Hs, Hout, ⟨Hsx, Hsw⟩, Hx, Hw⟩
  unfold bodyPost Φ₁ bufs Dat.owesAt Pipeline.owesWithin
  rw [show (dats m ρ 0 c).owed t₀.succ = 0 from rfl]
  isplitl [Hz Hc Hs]
  · isplitl [Hc Hs]
    · isplitl [Hc] <;> iassumption
    · iexact Hz
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iapply (Entails.of_eq (owns_whole_eq c cc0_stg4_0 (outAt m ρ c)))
  iexact Hout

set_option maxRecDepth 40000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (F := F) xM (Memref.isWhole_whole _) wM (Memref.isWhole_whole _) sxM (Memref.isWhole_whole _) swM (Memref.isWhole_whole _) oM (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11) (fun _ => bodyPost m ρ c)
  rw [body_eq]
  exact body_sound m ρ c

end Cert.KernelIdeal.Ring

end
-- ==== Proof.Start.lean ====
module

public import proofs.«01_k».proof.Proof.Oblig
public import Idealize.ShloMosaic.Lib.Pipeline.CollectiveSegs

/-! # The launch

The semaphores' records are made, the tokens dealt to the devices that pay with them, and the run's final state read. -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions -/

theorem bigSep_opt {T : Type} [Fintype T] [DecidableEq T] (Φ : Option T → sProp 𝕄) : bigSep Finset.univ Φ = iprop(Φ none ∗ bigSep Finset.univ fun x => Φ (some x)) := by
  rw [show (Finset.univ : Finset (Option T)) = insert none (Finset.univ.map Function.Embedding.some) from by ext x; cases x <;> simp,
    bigSep_insert (by simp), bigSep_map]
  rfl
theorem bigSep_turn {S T : Type} [Fintype S] [DecidableEq S] [Fintype T] [DecidableEq T] (Φ : S → T → sProp 𝕄) :
    bigSep Finset.univ (fun s => bigSep Finset.univ fun t => Φ s t) = bigSep Finset.univ (fun t => bigSep Finset.univ fun s => Φ s t) := by
  rw [← bigSep_univ_prod (fun p : S × T => Φ p.1 p.2), bigSep_univ_equiv (Equiv.prodComm T S), bigSep_univ_prod]; rfl

variable (m : (ℓ : Loc nD τ sig) → Buf (Elt F) ℓ) (ρ : Dev nD → PrngReg)

/-! ## The kernel's semaphores -/

abbrev osem : Mid → SemLoc sig := fun x => .dma (mq x)
theorem osem_inj : Function.Injective osem := fun x y h => mq_inj (SemLoc.dma.inj h)
theorem osem_scoped (x : Mid) : (osem x).isScoped .tc = true := by revert x; decide +kernel
theorem not_stage (x : Mid) (w : Fin cfg0.W) (s) : osem x ≠ .dma ((cfg0.spec w).sem s) := fun h => by
  have h1 : IsMsg ((cfg0.spec w).sem s) := by rw [← SemLoc.dma.inj h]; exact isMsg_mq x
  exact absurd h1 (by clear h h1; fin_cases w <;> fin_cases s <;> decide)
theorem ownSemFacts : Pipeline.OwnSemFacts cfg0.spec osem := ⟨osem_scoped, osem_inj, not_stage⟩

theorem share_eq (c : Dev nD) (w : Fin cfg0.W) : (dats m ρ 0 c).share w = fullShare := by unfold Dat.share; split <;> rfl

theorem csem_inj : Function.Injective csem := fun x y h => by
  cases x <;> cases y
  · rfl
  · cases h
  · cases h
  · exact congrArg some (osem_inj h)
theorem kcell_inj : Function.Injective (kcell : Dev nD × Option Mid → GSem nD τ sig) := by
  rintro ⟨c, k⟩ ⟨c', k'⟩ h
  have h1 : c = c' := by have := congrArg (fun g : GSem nD τ sig => g.1.1) h; exact this
  have h2 : k = k' := csem_inj (congrArg Prod.snd h)
  rw [h1, h2]
def ringCells : Finset (GSem nD τ sig) := Finset.univ.map ⟨kcell, kcell_inj⟩
abbrev tokOf (p : (Dev nD × Option Mid) × Bool) : GSem nD τ sig × ℕ × Bool := (kcell p.1, 0, p.2)
theorem tokOf_inj : Function.Injective tokOf := fun p p' h =>
  Prod.ext (kcell_inj (congrArg Prod.fst h)) (congrArg (fun x => x.2.2) h)
def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

/-- The tokens of a device's own semaphores. -/
def toks (c : Dev nD) : sProp 𝕄 :=
  iprop((dutyTok ER (barCell c) 0 false ∗ dutyTok ER (barCell c) 0 true) ∗ bigSep Finset.univ fun x : Mid => dutyTok ER (mcell c x) 0 false)
def G (c : Dev nD) : sProp 𝕄 :=
  iprop((bigSep Finset.univ fun k : Option Mid => roundState ER (ringRd m ρ) (kcell (c, k)) 0)
    ∗ (bigSep Finset.univ fun k : Option Mid => iprop(atPos ER (kcell (c, k)) 0 ∅ 0 ∗ reached ER (kcell (c, k)) 0)) ∗ toks (F := F) c)
def G' (c : Dev nD) : sProp 𝕄 := iprop(∃ K, ghost m ρ K c)

theorem toks_intro : bigSep ringToks (fun x => (dutyTok ER x.1 x.2.1 x.2.2 : sProp 𝕄)) ⊢ bigSep Finset.univ fun c : Dev nD => toks (F := F) c := by
  unfold ringToks
  rw [bigSep_map, bigSep_univ_prod, bigSep_univ_prod]
  refine bigSep_mono fun c _ => ?_
  show (bigSep Finset.univ fun k : Option Mid => bigSep Finset.univ fun d : Bool => (dutyTok ER (kcell (c, k)) 0 d : sProp 𝕄)) ⊢ toks (F := F) c
  rw [bigSep_opt, bigSep_two]
  unfold toks both
  beta_reduce
  refine BI.sep_mono (BI.Entails.refl _) (bigSep_mono fun x _ => ?_)
  show (bigSep Finset.univ fun d : Bool => (dutyTok ER (mcell c x) 0 d : sProp 𝕄)) ⊢ dutyTok ER (mcell c x) 0 false
  rw [bigSep_two]
  unfold both
  iintro ⟨H, -⟩
  iexact H

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option Mid => Φ (kcell (c, k)) := by
    unfold ringCells; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (toks_intro (F := F)) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun x : Mid => semVal (mcell c x) 0 := rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Option Mid => iprop(∃ κ : ℕ, cellInv ER (ringRd m ρ) κ (kcell (c, k))))
          ∗ (bigSep Finset.univ fun k : Option Mid => iprop(atPos ER (kcell (c, k)) 0 ∅ 0 ∗ reached ER (kcell (c, k)) 0)) ∗ toks (F := F) c) := by
  unfold G
  rw [ownSems0_eq, unscopedSems0_eq]
  iintro ⟨Hos, Hus, Hst, Hat, Htok⟩
  ihave Hv := (Entails.of_eq (bigSep_opt fun k : Option Mid => (semVal (kcell (c, k)) 0 : sProp 𝕄)).symm) $$ [Hos Hus]
  · isplitl [Hus] <;> iassumption
  imod (show iprop((bigSep Finset.univ fun k : Option Mid => semVal (kcell (c, k)) 0) ∗ bigSep Finset.univ fun k : Option Mid => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens, dealt to those who pay -/

def payToks (c : Dev nD) : sProp 𝕄 :=
  iprop((dutyTok ER (barCell (prv c)) 0 false ∗ dutyTok ER (barCell (nxt c)) 0 true)
    ∗ bigSep Finset.univ fun x : Msg => iprop(dutyTok ER (mcell c (false, x)) 0 false ∗ dutyTok ER (mcell (dst x.2.1 c) (true, x)) 0 false))

theorem toks_around : (bigSep Finset.univ fun c : Dev nD => toks (F := F) c) ⊢ bigSep Finset.univ fun c : Dev nD => payToks (F := F) c := by
  have h : (bigSep Finset.univ fun c : Dev nD => bigSep Finset.univ fun x : Msg => (dutyTok ER (mcell c (true, x)) 0 false : sProp 𝕄))
      = bigSep Finset.univ fun c : Dev nD => bigSep Finset.univ fun x : Msg => dutyTok ER (mcell (dst x.2.1 c) (true, x)) 0 false := by
    rw [bigSep_turn, bigSep_turn fun (c : Dev nD) (x : Msg) => (dutyTok ER (mcell (dst x.2.1 c) (true, x)) 0 false : sProp 𝕄)]
    exact bigSep_congr fun x _ => bigSep_univ_equiv (ringE x.2.1) fun c => (dutyTok ER (mcell c (true, x)) 0 false : sProp 𝕄)
  unfold toks payToks
  simp only [mid_msg, bigSep_sep']
  rw [h, bigSep_univ_equiv (ringE true) (fun c : Dev nD => (dutyTok ER (barCell c) 0 false : sProp 𝕄)),
    bigSep_univ_equiv (ringE false) (fun c : Dev nD => (dutyTok ER (barCell c) 0 true : sProp 𝕄))]
  exact BI.Entails.refl _

/-- What stays with a device: its places, and the tokens it pays with. -/
def linear (c : Dev nD) : sProp 𝕄 := iprop((bigSep Finset.univ fun k : Option Mid => atPos ER (kcell (c, k)) 0 ∅ 0) ∗ payToks (F := F) c)

theorem hand_intro (c : Dev nD) : linear (F := F) c ⊢ hand (F := F) c := by
  unfold linear payToks hand
  rw [bigSep_opt, mid_msg fun x : Mid => (atPos ER (mcell c x) 0 ∅ 0 : sProp 𝕄)]
  iintro ⟨⟨Hp, Hps⟩, ⟨H1, H2⟩, Hts⟩
  isplitl [Hp H1 H2]
  · isplitl [H1]; · iexact H1
    isplitl [H2] <;> iassumption
  rw [bigSep_sep' Finset.univ (fun x : Msg => iprop(dutyTok ER (mcell c (false, x)) 0 false ∗ dutyTok ER (mcell (dst x.2.1 c) (true, x)) 0 false))]
  isplitl [Hts] <;> iassumption
theorem ghost_intro (K : Dev nD × Option Mid → ℕ) (c : Dev nD) : iprop(records m ρ K ∗ linear (F := F) c) ⊢ G' m ρ c := by
  unfold G' ghost
  iintro ⟨#HR, H⟩
  iexists K
  isplitr; · iexact HR
  iapply (hand_intro (F := F) c); iexact H

theorem regroup :
    (bigSep Finset.univ fun c : Dev nD => iprop((bigSep Finset.univ fun k : Option Mid => iprop(∃ κ : ℕ, cellInv ER (ringRd m ρ) κ (kcell (c, k))))
          ∗ (bigSep Finset.univ fun k : Option Mid => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × Option Mid => iprop(∃ κ : ℕ, cellInv ER (ringRd m ρ) κ (kcell ck))),
    bigSep_congr (s := Finset.univ) (fun (c : Dev nD) _ => bigSep_sep' Finset.univ (fun k : Option Mid => (atPos ER (kcell (c, k)) 0 ∅ 0 : sProp 𝕄)) (fun k => reached ER (kcell (c, k)) 0)),
    bigSep_sep', ← bigSep_univ_prod (fun ck : Dev nD × Option Mid => (reached ER (kcell ck) 0 : sProp 𝕄))]
  iintro ⟨HI, ⟨Hat, #HR⟩, Htok⟩
  ihave HK := (BI.bigSep_exists_pi Finset.univ (fun (ck : Dev nD × Option Mid) (κ : ℕ) => (cellInv ER (ringRd m ρ) κ (kcell ck) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem bar_eq_iff {a b : Dev nD} : Iff (barCell a = barCell b) (a = b) :=
  ⟨fun h => congrArg (fun g : GSem nD τ sig => g.1.1) h, fun h => h ▸ rfl⟩

theorem Orem_apply (d : Dev nD) (g : GSem nD τ sig) : Orem d 0 g () = ∑ i ∈ Finset.Ico 0 48, if g = ocell d i then N else 0 := by
  unfold Orem
  rw [Finset.sum_apply, Finsupp.finset_sum_apply]
  refine Finset.sum_congr rfl fun i _ => ?_
  rw [tallyAt_apply]
  simp only [and_true]

theorem Orem_bar (d c : Dev nD) : Orem d 0 (barCell c) () = 0 := by
  rw [Orem_apply]
  refine Finset.sum_eq_zero fun i _ => if_neg fun h => ?_
  unfold ocell at h
  cases congrArg Prod.snd h

theorem owed_bar (d c : Dev nD) : O₀ d (barCell c) () = (if c = nxt d then 1 else 0) + (if c = prv d then 1 else 0) := by
  unfold O₀ O₁
  rw [Pi.add_apply, Finsupp.add_apply, Pi.add_apply, Finsupp.add_apply, Orem_bar, tallyAt_apply, tallyAt_apply, Nat.zero_add]
  simp only [bar_eq_iff, and_true]

theorem cell_iff (d c : Dev nD) (x : Msg) (i : ℕ) (hi : i < 48) : mcell c (true, x) = ocell d i ↔ i = idx x.1 x.2.1 x.2.2 ∧ d = src x.2.1 c := by
  constructor
  · intro h
    have h1 : i = idx x.1 x.2.1 x.2.2 := by
      have h2 := lv_ocell d i hi ()
      rw [← h] at h2
      have h3 := lv_recv c x.1 x.2.1 x.2.2
      have h4 : lv (mcell c (true, x)) () = 2 + idx x.1 x.2.1 x.2.2 := h3
      omega
    refine ⟨h1, ?_⟩
    rw [h1, ocell_idx] at h
    have h5 : c = dst x.2.1 d := congrArg (fun g : GSem nD τ sig => g.1.1) h
    rw [h5, src_dst]
  · rintro ⟨rfl, rfl⟩
    rw [ocell_idx, dst_src]

theorem owed_recv (d c : Dev nD) (x : Msg) : O₀ d (mcell c (true, x)) () = if d = src x.2.1 c then N else 0 := by
  unfold O₀ O₁
  rw [Pi.add_apply, Finsupp.add_apply, Pi.add_apply, Finsupp.add_apply, tallyAt_ne_cell (fun h => by cases congrArg Prod.snd h),
    tallyAt_ne_cell (fun h => by cases congrArg Prod.snd h), Finsupp.zero_apply, Nat.add_zero, Nat.add_zero, Orem_apply]
  rw [Finset.sum_congr rfl fun i hi => by rw [if_congr (cell_iff d c x i (Finset.mem_Ico.mp hi).2) rfl rfl]]
  by_cases h : d = src x.2.1 c
  · simp only [h, and_true, if_true]
    rw [Finset.sum_ite_eq' (Finset.Ico 0 48), if_pos (Finset.mem_Ico.mpr ⟨Nat.zero_le _, idx_lt _ _ _⟩)]
  · simp only [h, and_false, if_false, Finset.sum_const_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c : Dev nD) (x : Msg) :
    tallyOn (mcell c (true, x)) (launchCredit (Pipeline.owing O₀) 0 (mcell c (true, x))) = (tallyAt (mcell c (true, x)) () N : CellTallies nD τ sig Unit) := by
  unfold tallyAt; refine congrArg _ (Finsupp.ext fun u => ?_); cases u
  rw [Pipeline.launchCredit_owing, Finsupp.single_eq_same, Finset.sum_congr rfl fun d _ => owed_recv d c x, Finset.sum_ite_eq' Finset.univ (src x.2.1 c) fun _ => N,
    if_pos (Finset.mem_univ _)]

/-- The semaphores a device has credit at. -/
def cr : Option Msg ↪ SemLoc sig := ⟨fun o => csem (o.map fun x => (true, x)), fun a b h => by
  have h := csem_inj h
  cases a <;> cases b
  · rfl
  · cases h
  · cases h
  · exact congrArg some (Prod.ext_iff.mp (Option.some.inj h)).2⟩

theorem creds (c : Dev nD) :
    (Pipeline.launchCred O₀ c : sProp 𝕄) ⊢ iprop(cred (tallyAt (barCell c) () 2) ∗ bigSep Finset.univ fun x : Msg => cred (tallyAt (mcell c (true, x)) () N)) := by
  unfold Pipeline.launchCred
  refine BIBase.Entails.trans (bigSep_subset (Finset.subset_univ (Finset.univ.map cr))) (Entails.of_eq ?_)
  rw [bigSep_map, bigSep_opt]
  show iprop(cred (tallyOn (barCell c) (launchCredit (Pipeline.owing O₀) 0 (barCell c)))
    ∗ bigSep Finset.univ fun x : Msg => cred (tallyOn (mcell c (true, x)) (launchCredit (Pipeline.owing O₀) 0 (mcell c (true, x))))) = _
  rw [launch_bar]
  simp only [launch_recv]

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem any_whole (c : Dev nD) (b : Ref sig .tc) :
    (iprop(∃ f : Buf (Elt F) ((c : Thread nD τ).loc b), ((c : Thread nD τ).loc b) ↦{fullShare} f) : sProp 𝕄) ⊢ iprop(∃ X, owns (c : Thread nD τ) (Memref.whole b) fullShare X) := by
  iintro ⟨%f, H⟩
  iexists f
  rw [owns_whole_eq]
  iexists f
  isplitr; · ipureintro; rfl
  iexact H
theorem whole_any (c : Dev nD) (b : Ref sig .tc) :
    (iprop(∃ X, owns (c : Thread nD τ) (Memref.whole b) fullShare X) : sProp 𝕄) ⊢ iprop(∃ f : Buf (Elt F) ((c : Thread nD τ).loc b), ((c : Thread nD τ).loc b) ↦{fullShare} f) := by
  simp only [owns_whole_eq]
  iintro ⟨%X, %f, -, H⟩
  iexists f
  iexact H

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs comms stages
  iintro ⟨Hs, -, H0, H1, H2, H3⟩
  isplitl [Hs]; · iexact Hs
  isplitl [H0 H1]
  · isplitl [H0]
    · iapply (any_whole c cc0_scratch0); iexact H0
    · iapply (any_whole c cc0_scratch1); iexact H1
  · isplitl [H2]
    · iapply (any_whole c cc0_scratch2); iexact H2
    · iapply (any_whole c cc0_scratch3); iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ bufs comms stages
  iintro ⟨⟨⟨H0, H1⟩, H2, H3⟩, Hb, Hz⟩
  isplitl [Hb]; · iexact Hb
  isplitl [Hz]; · iexact Hz
  isplitl [H0]; · iapply (whole_any c cc0_scratch0); iexact H0
  isplitl [H1]; · iapply (whole_any c cc0_scratch1); iexact H1
  isplitl [H2]; · iapply (whole_any c cc0_scratch2); iexact H2
  iapply (whole_any c cc0_scratch3); iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every fair execution of the four devices ends, each device's arrays at known contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.Result.lean ====
module

public import proofs.«01_k».proof.Proof.Start

/-! # The arrays after the run

The four arguments are as they were, and the result array is what the body left in its buffer. -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- An input array holds after the run what it held before. -/
theorem finalA_x (c : Dev nD) : finalA m ρ c (0 : Fin 5) = m ((c : Thread nD τ).loc main_arg0) :=
  (dats (F := F) m ρ 0 c).arrAt_in (0 : Fin 5) rfl _
theorem finalA_w (c : Dev nD) : finalA m ρ c (1 : Fin 5) = m ((c : Thread nD τ).loc main_arg1) :=
  (dats (F := F) m ρ 0 c).arrAt_in (1 : Fin 5) rfl _
theorem finalA_sx (c : Dev nD) : finalA m ρ c (2 : Fin 5) = m ((c : Thread nD τ).loc main_arg2) :=
  (dats (F := F) m ρ 0 c).arrAt_in (2 : Fin 5) rfl _
theorem finalA_sw (c : Dev nD) : finalA m ρ c (3 : Fin 5) = m ((c : Thread nD τ).loc main_arg3) :=
  (dats (F := F) m ρ 0 c).arrAt_in (3 : Fin 5) rfl _

/-- The result array, read as its one block, is what the body leaves in its buffer. -/
theorem finalA_read (c : Dev nD) : (win0_4.blk (0 : Fin 1)).view.read (Elt F) (finalA m ρ c (4 : Fin 5)) = outAt m ρ c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

/-- A window's one block is its whole array, so that reading the one reads the other. -/
theorem read_o (f : (main_v1 : Ref sig .tc).ty.Contents (Elt F)) : (win0_4.blk (0 : Fin 1)).view.read (Elt F) f = f :=
  Memref.read_access_unit_zero (Elt F) main_v1 (funext fun a => by fin_cases a <;> decide) (fun a => by fin_cases a <;> decide) f
theorem read_x (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
theorem read_w (f : (main_arg1 : Ref sig .tc).ty.Contents (Elt F)) : (win0_1.blk (0 : Fin 1)).view.read (Elt F) f = f :=
  Memref.read_access_unit_zero (Elt F) main_arg1 (funext fun a => by fin_cases a <;> decide) (fun a => by fin_cases a <;> decide) f
theorem read_sx (f : (main_arg2 : Ref sig .tc).ty.Contents (Elt F)) : (win0_2.blk (0 : Fin 1)).view.read (Elt F) f = f :=
  Memref.read_access_unit_zero (Elt F) main_arg2 (funext fun a => by fin_cases a; decide) (fun a => by fin_cases a; decide) f
theorem read_sw (f : (main_arg3 : Ref sig .tc).ty.Contents (Elt F)) : (win0_3.blk (0 : Fin 1)).view.read (Elt F) f = f :=
  Memref.read_access_unit_zero (Elt F) main_arg3 (funext fun a => by fin_cases a; decide) (fun a => by fin_cases a; decide) f

theorem finalA_o (c : Dev nD) : finalA m ρ c (4 : Fin 5) = outAt m ρ c := (read_o _).symm.trans (finalA_read m ρ c)
theorem xin_eq (c : Dev nD) : xin m ρ c = m ((c : Thread nD τ).loc main_arg0) := read_x _
theorem win_eq (c : Dev nD) : win m ρ c = m ((c : Thread nD τ).loc main_arg1) := read_w _
theorem sxin_eq (c : Dev nD) : sxin m ρ c = m ((c : Thread nD τ).loc main_arg2) := read_sx _
theorem swin_eq (c : Dev nD) : swin m ρ c = m ((c : Thread nD τ).loc main_arg3) := read_sw _

/-- The run: a device's four arguments end as they began, its result is `outAt`, and every counter is zero. -/
theorem run_args :
    θ_run (defs (F := F)) (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := F)) _ _).mono (fun r h => ⟨fun c => ⟨(h.1 c (4 : Fin 5)).trans (finalA_o m ρ c),
    (h.1 c (0 : Fin 5)).trans (finalA_x m ρ c), (h.1 c (1 : Fin 5)).trans (finalA_w m ρ c),
    (h.1 c (2 : Fin 5)).trans (finalA_sx m ρ c), (h.1 c (3 : Fin 5)).trans (finalA_sw m ρ c)⟩, h.2⟩)
    (run_main m ρ)

/-- The same without the result. -/
theorem run_frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := F)) _ _).mono (fun _ h => ⟨fun c => (h.1 c).2, h.2⟩) (run_args m ρ)

end Cert.KernelIdeal.Ring

end
-- ==== Proof.Product.lean ====
module

public import proofs.«01_k».proof.Proof.Result
public import Idealize.ShloMosaic.Lib.IntMxu
public import Idealize.ShloMosaic.Lib.MatmulPlain
public import Idealize.ShloMosaic.Lib.ValueIdx
public import Idealize.ShloMosaic.Lib.Pipeline.Value
public import Idealize.ShloMosaic.PureOps.Ideal.Laws

/-! # The arithmetic of the body over the extended reals -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

/-! ## The contraction of two blocks of codes, at an index -/

/-- A row of codes against a column of codes, as an integer. -/
def dotAt {M K N : ℕ} (x : IVec ⟨2, ![M, K]⟩ 8) (w : IVec ⟨2, ![K, N]⟩ 8) (i : Fin M) (j : Fin N) : ℤ :=
  ∑ k : Fin K, (x (ix2 i k)).toInt * (w (ix2 k j)).toInt

section
variable {M K N : ℕ}

theorem plain_lhs (i : Fin M) (j : Fin N) (k : Fin K) :
    (DotDims.plain M K N).lhsIdx (ix2 i j) ((DotDims.plainContr M K N).symm k) = ix2 i k := by
  have hk := contrEquiv1_symm_val _ K (DotDims.plain_contr_rank M K N) (DotDims.plain_contr_size M K N) k
  funext a
  match a with
  | ⟨0, _⟩ => rfl
  | ⟨1, _⟩ => exact Fin.ext hk
theorem plain_rhs (i : Fin M) (j : Fin N) (k : Fin K) :
    (DotDims.plain M K N).rhsIdx (ix2 i j) ((DotDims.plainContr M K N).symm k) = ix2 k j := by
  have hk := contrEquiv1_symm_val _ K (DotDims.plain_contr_rank M K N) (DotDims.plain_contr_size M K N) k
  funext a
  match a with
  | ⟨0, _⟩ => exact Fin.ext hk
  | ⟨1, _⟩ => rfl

/-- A sum over a plain contraction's positions, by the inner coordinate. -/
theorem plain_sum {A : Type} [AddCommMonoid A] (f : (⟨2, ![M, K]⟩ : Shape).Idx → (⟨2, ![K, N]⟩ : Shape).Idx → A) (i : Fin M) (j : Fin N) :
    (∑ q : (DotDims.plain M K N).contr.Idx, f ((DotDims.plain M K N).lhsIdx (ix2 i j) q) ((DotDims.plain M K N).rhsIdx (ix2 i j) q))
      = ∑ k : Fin K, f (ix2 i k) (ix2 k j) := by
  rw [← Equiv.sum_comp (DotDims.plainContr M K N).symm]
  exact Finset.sum_congr rfl fun k _ => by rw [plain_lhs, plain_rhs]

theorem dot_plain (x : IVec ⟨2, ![M, K]⟩ 8) (w : IVec ⟨2, ![K, N]⟩ 8) (i : Fin M) (j : Fin N) :
    dotI8 (DotDims.plain M K N) x w (ix2 i j) = dotAt x w i j :=
  plain_sum (fun a b => (x a).toInt * (w b).toInt) i j

/-- A code other than the least has magnitude at most 127. -/
theorem code_le (x : BitVec 8) (h : x ≠ 128#8) : x.toInt.natAbs ≤ 127 := by
  have h1 := BitVec.toInt_lt (x := x)
  have h2 := BitVec.le_toInt (x := x)
  have h3 : x.toInt ≠ -128 := fun e => h (BitVec.eq_of_toInt_eq (e.trans (by decide)))
  omega

theorem absDot_plain_le (x : IVec ⟨2, ![M, K]⟩ 8) (w : IVec ⟨2, ![K, N]⟩ 8) (hx : ∀ i, x i ≠ 128#8) (i : Fin M) (j : Fin N) :
    absDotI8 (DotDims.plain M K N) x w (ix2 i j) ≤ K * (127 * 128) := by
  refine (plain_sum (fun a b => ((x a).toInt * (w b).toInt).natAbs) i j).trans_le ?_
  refine (Finset.sum_le_card_nsmul Finset.univ _ (127 * 128) fun k _ => ?_).trans_eq (by simp)
  rw [Int.natAbs_mul]
  exact Nat.mul_le_mul (code_le _ (hx _)) (natAbs_toInt_i8_le _)

/-- Over a thousand and twenty-four positions the product of such blocks is exact. -/
theorem product_exact (x : IVec ⟨2, ![M, 1024]⟩ 8) (w : IVec ⟨2, ![1024, N]⟩ 8) (hx : ∀ i, x i ≠ 128#8) (i : Fin M) (j : Fin N) :
    (matmulI8 IntMxuNumerics.v7x (DotDims.plain M 1024 N) x w (constantI ⟨2, ![M, N]⟩ 32 0#32) (ix2 i j)).toInt = dotAt x w i j := by
  rw [matmulI8_toInt _ _ _ _ _ _ rfl ((absDot_plain_le x w hx i j).trans (by decide)), dot_plain]

end

/-! ## What a device computes of a chunk -/

theorem band_apply (x : Vec Ideal S128x1024 .i8) (w : Vec Ideal S1024x2048 .i8) (hx : ∀ i, (x : IVec S128x1024 8) i ≠ 128#8) (i : Fin 128) (j : Fin 2048) :
    pBand (F := Ideal) x w (ix2 i j) = (((dotAt (x : IVec S128x1024 8) w i j : ℤ) : ℝ) : EReal) := by
  show ((((matmulI8 IntMxuNumerics.v7x (DotDims.plain 128 1024 2048) (shapeCast S128x1024 x _) (shapeCast S1024x2048 w _) (constantI S128x2048 32 0#32) (ix2 i j)).toInt : ℤ) : ℝ) : EReal) = _
  rw [shapeCast_self, shapeCast_self, product_exact _ _ hx]

theorem chunk_apply (x : Vec Ideal S1024x1024 .i8) (w : Vec Ideal S1024x2048 .i8) (hx : ∀ i, (x : IVec S1024x1024 8) i ≠ 128#8) (i : Fin 1024) (j : Fin 2048) :
    pChunk (F := Ideal) x w (ix2 i j) = (((dotAt (x : IVec S1024x1024 8) w i j : ℤ) : ℝ) : EReal) := by
  show ((((matmulI8 IntMxuNumerics.v7x (DotDims.plain 1024 1024 2048) (shapeCast S1024x1024 x _) (shapeCast S1024x2048 w _) (constantI S1024x2048 32 0#32) (ix2 i j)).toInt : ℤ) : ℝ) : EReal) = _
  rw [shapeCast_self, shapeCast_self, product_exact _ _ hx]

/-! ## Adding, finishing and passing on, over the reals -/

theorem cast_pair (v : FVec Ideal S128x2048 .f32) : shapeCast S128x2048 (pMsg v : FVec Ideal S1x128x2048 .bf16) shapeCasts_S1x128x2048_S128x2048 = (v : S128x2048.Idx → EReal) := by
  unfold pMsg
  rw [shapeCast_shapeCast]
  rfl

theorem add_apply (o v : FVec Ideal S128x2048 .f32) (i : S128x2048.Idx) : pAdd (F := Ideal) o (pMsg v) i = (o i + v i : EReal) := by
  show (shapeCast S128x2048 o _ i : EReal) + (shapeCast S128x2048 (pMsg v) _ i : EReal) = _
  rw [shapeCast_self, cast_pair]

theorem fin_apply (s : Ideal .f32) (o v : FVec Ideal S128x2048 .f32) (i : S128x2048.Idx) :
    pFin (F := Ideal) s o (pMsg v) i = max (((o i + v i : EReal)) * s) 0 := by
  show max (((shapeCast S128x2048 o _ i : EReal) + (shapeCast S128x2048 (pMsg v) _ i : EReal)) * s) (Ideal.ofBits .f32 0x00000000#32) = _
  rw [shapeCast_self, cast_pair, Ideal.ofBits_zero_f32]

theorem ext_apply (v : FVec Ideal S128x2048 .f32) (i : S128x2048.Idx) : pExt (F := Ideal) (pMsg v) i = v i := by
  show (shapeCast S128x2048 (pMsg v) _ i : EReal) = _
  rw [cast_pair]

end Cert.KernelIdeal.Ring

end
-- ==== Proof.Sums.lean ====
module

public import proofs.«01_k».proof.Proof.Product
public import Idealize.ShloMosaic.Lib.VecWindow

/-! # The sums round the rings, over the extended reals -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

/-! ## Windows of the first factor -/

/-- A window of whole rows, contracted: the rows are those of the whole. -/
theorem dot_window {M N : ℕ} {off : Fin 2 → ℕ} (o : ℕ) (h : off = ![o, 0]) (inb : ∀ a, off a + (![M, 1024] : Fin 2 → ℕ) a ≤ S4096x1024.size a)
    (x : IVec S4096x1024 8) (w : IVec ⟨2, ![1024, N]⟩ 8) (i : Fin M) (j : Fin N) (row : Fin 4096) (hrow : row.val = o + i.val) :
    dotAt (M := M) (xM.view.readAt (Elt Ideal) (Rect.unit (s := S4096x1024) off ![M, 1024] inb).toLoadRect x) w i j = dotAt x w row j := by
  subst h
  refine Finset.sum_congr rfl fun k _ => congrArg (fun z => (x z).toInt * (w (ix2 k j)).toInt) (funext fun a => Fin.ext ?_)
  match a with
  | ⟨0, _⟩ => show o + 1 * i.val = row.val; omega
  | ⟨1, _⟩ => show 0 + 1 * k.val = k.val; omega

theorem window_ne (R : Rect S4096x1024) (x : IVec S4096x1024 8) (h : ∀ i, x i ≠ 128#8) (i : R.toLoadRect.shape.Idx) :
    (xM.view.readAt (Elt Ideal) R.toLoadRect x i : BitVec 8) ≠ 128#8 := h _

theorem off1_eq (d : Dev nD) (r : Bool) (b : Fin 4) :
    k0_off1 d (BitVec.ofNat 32 (512 * r.toNat)) (BitVec.ofNat 32 (128 * b.val)) = ![1024 * d.val + (512 * r.toNat + 128 * b.val), 0] := by
  cases r
  · exact (k0_off1_eq d 0 b).trans (by simp)
  · exact (k0_off1_eq d 1 b).trans (by simp; omega)

/-! ## What a device adds to a piece -/

/-- A row of piece `b` of ring `r` in chunk `k`. -/
def rowIn (k : Fin 4) (r : Bool) (b : Fin 4) (i : Fin 128) : Fin 4096 :=
  ⟨1024 * k.val + (512 * r.toNat + 128 * b.val) + i.val, by have : r.toNat ≤ 1 := Bool.toNat_le r; omega⟩

variable (m : (ℓ : Loc nD τ sig) → Buf (Elt Ideal) ℓ) (ρ : Dev nD → PrngReg)

/-- Device `d`'s summand of the product, at a row and a column. -/
def part (d : Dev nD) (i : Fin 4096) (j : Fin 2048) : EReal :=
  (((dotAt (xin m ρ d : IVec S4096x1024 8) (win m ρ d : IVec S1024x2048 8) i j : ℤ) : ℝ) : EReal)

theorem wAll_eq (d : Dev nD) : wAll m ρ d = win m ρ d := View.readAt_full _ _ _

section
variable (hx : ∀ (d : Dev nD) (i : S4096x1024.Idx), (xin m ρ d : IVec S4096x1024 8) i ≠ 128#8)
include hx

theorem own_apply (r : Bool) (b : Fin 4) (d : Dev nD) (i : Fin 128) (j : Fin 2048) :
    (ownV m ρ r b d (ix2 i j) : EReal) = part m ρ d (rowIn d r b i) j := by
  unfold ownV
  rw [wAll_eq, band_apply _ _ (window_ne (xR d r b) (xin m ρ d) (hx d)) i j]
  have h := dot_window (M := 128) (N := 2048) (1024 * d.val + (512 * r.toNat + 128 * b.val)) (off1_eq d r b) (off1_inb d r b)
    (xin m ρ d) (win m ρ d) i j (rowIn d r b i) rfl
  exact congrArg (fun z : ℤ => ((z : ℝ) : EReal)) h

theorem chunk_at (jj : Fin 3) (d : Dev nD) (i : Fin 1024) (j : Fin 2048) (row : Fin 4096) (hrow : row.val = 1024 * (chK d jj).val + i.val) :
    (chV m ρ jj d (ix2 i j) : EReal) = part m ρ d row j := by
  unfold chV
  rw [wAll_eq, chunk_apply _ _ (window_ne (Rect.unit (s := S4096x1024) (chunkAt d jj).xoff S1024x1024.size (chunkAt d jj).xinb) (xin m ρ d) (hx d)) i j]
  have h := dot_window (M := 1024) (N := 2048) (1024 * (chK d jj).val) (chunk_xoff d jj) (chunkAt d jj).xinb
    (xin m ρ d) (win m ρ d) i j row hrow
  exact congrArg (fun z : ℤ => ((z : ℝ) : EReal)) h

theorem band_at (jj : Fin 3) (r : Bool) (b : Fin 4) (d : Dev nD) (i : Fin 128) (j : Fin 2048) :
    (bandV m ρ jj r b d (ix2 i j) : EReal) = part m ρ d (rowIn (chK d jj) r b i) j := by
  have hr : r.toNat ≤ 1 := Bool.toNat_le r
  have he : (subR r b).emb (ix2 i j) = ix2 (⟨512 * r.toNat + 128 * b.val + i.val, by omega⟩ : Fin 1024) j := by
    funext a
    apply Fin.ext
    match a with
    | ⟨0, _⟩ => show 512 * r.toNat + 128 * b.val + 1 * i.val = 512 * r.toNat + 128 * b.val + i.val; omega
    | ⟨1, _⟩ => show 0 + 1 * j.val = j.val; omega
  show (chV m ρ jj d ((subR r b).emb (ix2 i j)) : EReal) = _
  rw [he]
  exact chunk_at m ρ hx jj d _ j _ (by show 1024 * (chK d jj).val + (512 * r.toNat + 128 * b.val) + i.val = 1024 * (chK d jj).val + (512 * r.toNat + 128 * b.val + i.val); omega)

end

/-! ## Round a ring -/

theorem rs_last (r : Bool) (c : Dev nD) : rsK r 1 (src r c) = rsK r 2 c ∧ rsK r 0 (src r (src r c)) = rsK r 2 c
    ∧ (src r (src r (src r c)) : Fin 4) = rsK r 2 c := by revert r c; decide +kernel
theorem ag_from (r : Bool) (c : Dev nD) : rsK r 2 (src r c) = agK r 0 c ∧ rsK r 2 (src r (src r c)) = agK r 1 c
    ∧ rsK r 2 (src r (src r (src r c))) = agK r 2 c := by revert r c; decide +kernel

/-- The devices, from `c` back to the one that began. -/
def roundE (r : Bool) (c : Dev nD) : Fin 4 ≃ Dev nD :=
  Equiv.ofBijective ![c, src r c, src r (src r c), src r (src r (src r c))] (by revert r c; decide +kernel)

theorem ring_sum {A : Type} [AddCommMonoid A] (r : Bool) (c : Dev nD) (f : Dev nD → A) :
    f c + (f (src r c) + (f (src r (src r c)) + f (src r (src r (src r c))))) = ∑ d, f d := by
  rw [← (roundE r c).sum_comp, Fin.sum_univ_four, add_assoc, add_assoc]
  rfl

/-- A finished row: every device's summand, scaled, and no less than zero. -/
def done (s : EReal) (i : Fin 4096) (j : Fin 2048) : EReal := max ((∑ d : Dev nD, part m ρ d i j) * s) 0

section
variable (hx : ∀ (d : Dev nD) (i : S4096x1024.Idx), (xin m ρ d : IVec S4096x1024 8) i ≠ 128#8)
include hx

theorem fin_at (r : Bool) (b : Fin 4) (c : Dev nD) (i : Fin 128) (j : Fin 2048) :
    (fin m ρ r b c (ix2 i j) : EReal) = done m ρ (scl m ρ c) (rowIn (rsK r 2 c) r b i) j := by
  obtain ⟨h1, h0, hs⟩ := rs_last r c
  have ho : (ownV m ρ r b (src r (src r (src r c))) (ix2 i j) : EReal) = part m ρ (src r (src r (src r c))) (rowIn (rsK r 2 c) r b i) j :=
    (own_apply m ρ hx r b _ i j).trans (congrArg (fun k : Fin 4 => part m ρ (src r (src r (src r c))) (rowIn k r b i) j) hs)
  unfold fin msg2
  refine (fin_apply _ _ _ _).trans ?_
  unfold acc1 msg1
  rw [add_apply]
  unfold acc0 msg0
  rw [add_apply, ho, band_at m ρ hx, band_at m ρ hx, band_at m ρ hx, ← rsK_eq, ← rsK_eq, ← rsK_eq, h1, h0,
    ring_sum r c fun d => part m ρ d (rowIn (rsK r 2 c) r b i) j]
  rfl

theorem out_at (s : EReal) (hs : ∀ d, scl m ρ d = s) (c : Dev nD) (k : Fin 4) (r : Bool) (b : Fin 4) (i : Fin 128) (j : Fin 2048) :
    (outV m ρ c (k, r, b) (ix2 i j) : EReal) = done m ρ s (rowIn k r b i) j := by
  obtain ⟨h0, h1, h2⟩ := ag_from r c
  obtain ⟨o, rfl⟩ := (ordE r c).surjective k
  unfold outV
  rw [Equiv.symm_apply_apply]
  match o with
  | none => exact (fin_at m ρ hx r b c i j).trans (by rw [hs]; rfl)
  | some 0 => exact (ext_apply _ _).trans ((fin_at m ρ hx r b _ i j).trans (by rw [hs, h0]; rfl))
  | some 1 => exact (ext_apply _ _).trans ((fin_at m ρ hx r b _ i j).trans (by rw [hs, h1]; rfl))
  | some 2 => exact (ext_apply _ _).trans ((fin_at m ρ hx r b _ i j).trans (by rw [hs, h2]; rfl))

/-- The output of every device, at an index. -/
theorem outAt_apply (s : EReal) (hs : ∀ d, scl m ρ d = s) (c : Dev nD) (i : Fin 4096) (j : Fin 2048) :
    (outAt m ρ c (ix2 i j) : EReal) = done m ρ s i j := by
  have hi := i.isLt
  have hb : (decide (512 ≤ i.val % 1024)).toNat = i.val % 1024 / 512 := by
    by_cases h : 512 ≤ i.val % 1024
    · rw [decide_eq_true h]; show 1 = _; omega
    · rw [decide_eq_false h]; show 0 = _; omega
  obtain ⟨k, r, b, l, e⟩ : ∃ (k : Fin 4) (r : Bool) (b : Fin 4) (l : Fin 128), i = rowIn k r b l :=
    ⟨⟨i.val / 1024, by omega⟩, decide (512 ≤ i.val % 1024), ⟨i.val % 512 / 128, by omega⟩, ⟨i.val % 128, by omega⟩, Fin.ext (by
      show i.val = 1024 * (i.val / 1024) + (512 * (decide (512 ≤ i.val % 1024)).toNat + 128 * (i.val % 512 / 128)) + i.val % 128
      rw [hb]; omega)⟩
  subst e
  rw [← out_at m ρ hx s hs c k r b l j, ← Rect.glue_emb absR absR_cover absR_disj (outV m ρ c) (k, r, b) (ix2 l j)]
  refine congrArg (outAt m ρ c) (funext fun a => Fin.ext ?_)
  match a with
  | ⟨0, _⟩ => show 1024 * k.val + (512 * r.toNat + 128 * b.val) + l.val = 1024 * k.val + 512 * r.toNat + 128 * b.val + 1 * l.val; omega
  | ⟨1, _⟩ => show j.val = 0 + 1 * j.val; omega

end

end Cert.KernelIdeal.Ring

end
-- ==== Proof.Refer.lean ====
module

public import proofs.«01_k».proof.Proof.Product
public import proofs.«01_k».proof.ReferenceIdeal
public import proofs.«01_k».proof.Proof.Gen.ReferenceIdeal
public import Idealize.ShloMosaic.Lib.IdealHost
public import Idealize.ShloMosaic.Lib.Layout

/-! # The reference's array over the extended reals -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

/-! ## The reference's array, at an index -/

theorem real_sum {ι : Type} (s : Finset ι) (f : ι → ℝ) : ((∑ k ∈ s, f k : ℝ) : EReal) = ∑ k ∈ s, (f k : EReal) := by
  classical
  refine Finset.induction_on s (by simp) fun a t ha ih => ?_
  rw [Finset.sum_insert ha, Finset.sum_insert ha, EReal.coe_add, ih]

theorem int_sum {ι : Type} (s : Finset ι) (f : ι → ℤ) : (((∑ k ∈ s, f k : ℤ) : ℝ) : EReal) = ∑ k ∈ s, (((f k : ℤ) : ℝ) : EReal) := by
  rw [Int.cast_sum, real_sum]

theorem code_real (x : BitVec 8) : (FloatOps.sitofp (F := Ideal) .f32 (x.signExtend 32) : EReal) = ((x.toInt : ℝ) : EReal) := by
  show (((x.signExtend 32).toInt : ℝ) : EReal) = _
  rw [BitVec.toInt_signExtend_of_le (by decide)]

/-- The whole product, scaled, and no less than zero. -/
def wholeAt (X : IVec ⟨2, ![4096, 4096]⟩ 8) (W : IVec ⟨2, ![4096, 2048]⟩ 8) (s : EReal) (i : Fin 4096) (j : Fin 2048) : EReal :=
  max ((((dotAt X W i j : ℤ) : ℝ) : EReal) * s) 0

theorem dot_real (X : IVec ⟨2, ![4096, 4096]⟩ 8) (W : IVec ⟨2, ![4096, 2048]⟩ 8) (h h' : 8 < 32) (i : Fin 4096) (j : Fin 2048) :
    (Host.dotGeneral (F := Ideal) (φ₁ := .f32) (φ₂ := .f32) Cert.ReferenceIdeal.dot_S4096x4096_S4096x2048_S4096x2048_1_0_0_1_n_n none
      (sitofp .f32 (extsi 32 X h)) (sitofp .f32 (extsi 32 W h')) (ix2 i j) : EReal)
      = (((dotAt X W i j : ℤ) : ℝ) : EReal) := by
  refine (Ideal.dotGeneral_apply _ _ _ _ _ _).trans ?_
  refine (plain_sum (M := 4096) (K := 4096) (N := 2048)
    (fun a b => (FloatOps.sitofp (F := Ideal) .f32 ((X a).signExtend 32) : EReal) * (FloatOps.sitofp (F := Ideal) .f32 ((W b).signExtend 32) : EReal)) i j).trans ?_
  unfold dotAt
  rw [int_sum]
  refine Finset.sum_congr rfl fun k _ => ?_
  rw [code_real, code_real, Int.cast_mul, EReal.coe_mul]

/-- A vector of one number has one index. -/
theorem one_idx (i j : (⟨1, ![1]⟩ : Shape).Idx) : i = j := by
  rw [eq_ix1 i, eq_ix1 j]; exact congrArg ix1 (Subsingleton.elim (α := Fin 1) _ _)

/-- The reference's result, as its run prints it. -/
def refAt (X : IVec ⟨2, ![4096, 4096]⟩ 8) (W : IVec ⟨2, ![4096, 2048]⟩ 8) (sx sw : FVec Ideal ⟨1, ![1]⟩ .f32) : FVec Ideal ⟨2, ![4096, 2048]⟩ .f32 :=
  maximumf (mulf (Host.dotGeneral Cert.ReferenceIdeal.dot_S4096x4096_S4096x2048_S4096x2048_1_0_0_1_n_n none
      (sitofp .f32 (extsi 32 X Cert.ReferenceIdeal.Gen.natLt_8_32)) (sitofp .f32 (extsi 32 W Cert.ReferenceIdeal.Gen.natLt_8_32)))
    (broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf sx sw))))
    (broadcastInDim Cert.ReferenceIdeal.S4096x2048 ![] Cert.ReferenceIdeal.Gen.bcast_S_S4096x2048 (constant Cert.ReferenceIdeal.S_ .f32 0x00000000#32))

theorem refAt_apply (X : IVec ⟨2, ![4096, 4096]⟩ 8) (W : IVec ⟨2, ![4096, 2048]⟩ 8) (sx sw : FVec Ideal ⟨1, ![1]⟩ .f32) (i : Fin 4096) (j : Fin 2048) :
    (refAt X W sx sw (ix2 i j) : EReal) = wholeAt X W ((sx (ix1 0) : EReal) * (sw (ix1 0) : EReal)) i j := by
  unfold refAt wholeAt
  rw [maximumf_apply, mulf_apply, dot_real]
  refine congrArg₂ max (congrArg _ ?_) ?_
  · unfold broadcastInDim
    rw [mulf_apply]
    exact congrArg₂ (fun a b : EReal => a * b) (congrArg sx (one_idx _ _)) (congrArg sw (one_idx _ _))
  · exact Ideal.ofBits_zero_f32

/-! ## The whole product in the devices' parts -/

theorem dot_parts (X : IVec ⟨2, ![4096, 4096]⟩ 8) (W : IVec ⟨2, ![4096, 2048]⟩ 8) (i : Fin 4096) (j : Fin 2048)
    (hX : Layout.Tiles ⟨2, ![4096, 1024]⟩ ⟨2, ![4096, 4096]⟩ 1 4) (hW : Layout.Tiles ⟨2, ![1024, 2048]⟩ ⟨2, ![4096, 2048]⟩ 0 4) :
    dotAt X W i j = ∑ d : Fin 4, dotAt (M := 4096) (K := 1024) (N := 2048) (Layout.block ⟨2, ![4096, 1024]⟩ ⟨2, ![4096, 4096]⟩ 1 4 d X hX)
      (Layout.block ⟨2, ![1024, 2048]⟩ ⟨2, ![4096, 2048]⟩ 0 4 d W hW) i j := by
  unfold dotAt
  rw [← (finProdFinEquiv (m := 4) (n := 1024)).sum_comp, Fintype.sum_prod_type]
  refine Finset.sum_congr rfl fun d _ => Finset.sum_congr rfl fun k _ => ?_
  rw [Layout.block_apply, Layout.block_apply]
  have hv : (finProdFinEquiv (d, k) : Fin (4 * 1024)).val = k.val + 1024 * d.val := rfl
  refine congrArg₂ (fun a b => (X a).toInt * (W b).toInt) (funext fun a => Fin.ext ?_) (funext fun a => Fin.ext ?_)
  · match a with
    | ⟨0, _⟩ => rfl
    | ⟨1, _⟩ => refine hv.trans (Eq.trans ?_ (Layout.idx_cols_val hX d (ix2 i k)).2.symm); show k.val + 1024 * d.val = d.val * 1024 + k.val; omega
  · match a with
    | ⟨0, _⟩ => refine hv.trans (Eq.trans ?_ (Layout.idx_rows_val hW d (ix2 k j)).1.symm); show k.val + 1024 * d.val = d.val * 1024 + k.val; omega
    | ⟨1, _⟩ => rfl

end Cert.KernelIdeal.Ring

end
-- ==== Proof.Equal.lean ====
module

public import proofs.«01_k».proof.Proof.Sums
public import proofs.«01_k».proof.Proof.Refer
public import proofs.«01_k».proof.Pre_symmetric_KernelIdeal
public import proofs.«01_k».proof.Proof.Gen.Pre_symmetric_KernelIdeal
public import Idealize.ShloMosaic.Lib.WordCmp

/-! # The kernel's output and the reference's array, index by index -/

@[expose] public section

noncomputable section

namespace Cert.KernelIdeal.Ring

open Cert.KernelIdeal Cert.KernelIdeal.Gen Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

/-! ## The two arrays are one -/

variable (m : (ℓ : Loc nD τ sig) → Buf (Elt Ideal) ℓ) (ρ : Dev nD → PrngReg)

/-- The factor a device scales by is the product of its two scales. -/
theorem scl_eq (sx sw : FVec Ideal ⟨1, ![1]⟩ .f32) (c : Dev nD)
    (h2 : m ((c : Thread nD τ).loc main_arg2) = sx) (h3 : m ((c : Thread nD τ).loc main_arg3) = sw) :
    (scl m ρ c : EReal) = (sx (ix1 0) : EReal) * (sw (ix1 0) : EReal) := by
  have e2 := (sxin_eq m ρ c).trans h2
  have e3 := (swin_eq m ρ c).trans h3
  unfold scl
  rw [e2, e3]
  exact congrArg₂ (fun a b : EReal => a * b) (congrArg sx (one_idx _ _)) (congrArg sw (one_idx _ _))

/-- The precondition, read at a code. -/
theorem codes_ne (x : IVec S4096x1024 8) (w : IVec S1024x2048 8) (sx sw : FVec Ideal ⟨1, ![1]⟩ .f32)
    (h : Cert.Pre_symmetric_KernelIdeal.fn (F := Ideal) x w sx sw = fun _ => 1#1) (i : S4096x1024.Idx) : x i ≠ 128#8 := by
  have h' : IntOp.cmpi .ne (x i) 128#8 = 1#1 := congrFun h i
  rw [WordCmp.cmpi_ne_eq] at h'
  intro e
  rw [e] at h'
  exact absurd h' (by decide)

/-- Where every device holds its part of the factors and no code of the first is the least, a device's output is the reference's. -/
theorem outAt_eq (X : IVec ⟨2, ![4096, 4096]⟩ 8) (W : IVec ⟨2, ![4096, 2048]⟩ 8) (sx sw : FVec Ideal ⟨1, ![1]⟩ .f32)
    (hX : Layout.Tiles ⟨2, ![4096, 1024]⟩ ⟨2, ![4096, 4096]⟩ 1 4) (hW : Layout.Tiles ⟨2, ![1024, 2048]⟩ ⟨2, ![4096, 2048]⟩ 0 4)
    (h0 : ∀ c : Dev nD, m ((c : Thread nD τ).loc main_arg0) = Layout.block ⟨2, ![4096, 1024]⟩ ⟨2, ![4096, 4096]⟩ 1 4 c X hX)
    (h1 : ∀ c : Dev nD, m ((c : Thread nD τ).loc main_arg1) = Layout.block ⟨2, ![1024, 2048]⟩ ⟨2, ![4096, 2048]⟩ 0 4 c W hW)
    (h2 : ∀ c : Dev nD, m ((c : Thread nD τ).loc main_arg2) = sx) (h3 : ∀ c : Dev nD, m ((c : Thread nD τ).loc main_arg3) = sw)
    (hne : ∀ (c : Dev nD) (i : S4096x1024.Idx), (m ((c : Thread nD τ).loc main_arg0) : IVec S4096x1024 8) i ≠ 128#8) (c : Dev nD) :
    outAt m ρ c = refAt X W sx sw := by
  have hx (d : Dev nD) (i : S4096x1024.Idx) : (xin m ρ d : IVec S4096x1024 8) i ≠ 128#8 := by rw [xin_eq]; exact hne d i
  have hp (d : Dev nD) (i : Fin 4096) (j : Fin 2048) : part m ρ d i j
      = (((dotAt (M := 4096) (K := 1024) (N := 2048) (Layout.block ⟨2, ![4096, 1024]⟩ ⟨2, ![4096, 4096]⟩ 1 4 d X hX)
        (Layout.block ⟨2, ![1024, 2048]⟩ ⟨2, ![4096, 2048]⟩ 0 4 d W hW) i j : ℤ) : ℝ) : EReal) := by
    unfold part
    rw [xin_eq, win_eq, h0, h1]
  have he (i : Fin 4096) (j : Fin 2048) : (outAt m ρ c (ix2 i j) : EReal) = refAt X W sx sw (ix2 i j) := by
    refine (outAt_apply m ρ hx _ (fun d => scl_eq m ρ sx sw d (h2 d) (h3 d)) c i j).trans ?_
    rw [refAt_apply]
    unfold done wholeAt
    rw [dot_parts X W i j hX hW, int_sum]
    simp only [hp]
  funext y
  exact (congrArg (outAt m ρ c) (eq_ix2 y)).trans ((he (y 0) (y 1)).trans (congrArg (refAt X W sx sw) (eq_ix2 y)).symm)

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Equal
public import proofs.«01_k».proof.Proof.Gen.Pre_symmetric_KernelIdeal
public import proofs.«01_k».proof.Proof.Gen.Pre_symmetric_ReferenceIdeal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-! ## The frames -/

/-- The kernel as printed and the ideal kernel have the same text, so over the machine's words they are the same program. -/
theorem body_same : @Cert.Kernel.cc0_body Bits _ _ = @Cert.KernelIdeal.cc0_body Bits _ _ := rfl

theorem defs₀_same : Cert.Kernel.defs₀ (F := Bits) = Cert.KernelIdeal.defs₀ (F := Bits) := by
  unfold Cert.Kernel.defs₀ Cert.KernelIdeal.defs₀
  refine congrArg Defs.onTc ?_
  funext ℓ x
  match ℓ, x with
  | 0, (t, s) => rfl
  | ⟨_ + 1, h⟩, _ => exact absurd h (Nat.not_lt.2 (Nat.le_add_left _ _))

theorem defs_same : Cert.Kernel.defs (F := Bits) = Cert.KernelIdeal.defs (F := Bits) := congrArg (Pipeline.defs _) defs₀_same

theorem frame_kernel : Cert.quiescent_Kernel := fun m ρ _ => by
  rw [defs_same]
  exact Cert.KernelIdeal.Ring.run_frame (F := Bits) m ρ

theorem frame_ideal : Cert.quiescent_KernelIdeal := fun m ρ _ => Cert.KernelIdeal.Ring.run_frame (F := Ideal) m ρ

theorem frame_ideal_pre : Cert.quiescent_KernelIdeal_pre_symmetric_KernelIdeal := fun m ρ _ => frame_ideal m ρ trivial

theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_reference_pre : Cert.quiescent_ReferenceIdeal_pre_symmetric_ReferenceIdeal := fun m ρ _ => frame_reference m ρ trivial

/-! ## The value -/

theorem value : Cert.algebraic_KernelIdeal_ReferenceIdeal_pre_symmetric_KernelIdeal := fun m g m' g' hpre hm => by
  refine ⟨Cert.KernelIdeal.Ring.refAt (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run (Cert.KernelIdeal.defs (F := Ideal)) _ _).mono (fun r h c => ⟨(h.1 c).1.trans ?_, (h.1 c).2⟩) (Cert.KernelIdeal.Ring.run_args (F := Ideal) m g)
    exact Cert.KernelIdeal.Ring.outAt_eq m g _ _ _ _ _ _ (fun c => (hm c).1) (fun c => (hm c).2.1) (fun c => (hm c).2.2.1) (fun c => (hm c).2.2.2)
      (fun c => Cert.KernelIdeal.Ring.codes_ne _ _ _ _ (hpre c)) c
  · exact (θ_run (Cert.ReferenceIdeal.defs (F := Ideal)) _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.Pre_symmetric_KernelIdeal.Gen.facts,
    Cert.Pre_symmetric_ReferenceIdeal.Gen.facts, frame_kernel, frame_ideal, frame_ideal_pre, frame_reference, frame_reference_pre, trivial,
    value⟩

end Cert.Proof

end
